-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))).2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))).2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v41)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v179) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def preserves_Kernel3_Kernel3Ideal : Prop :=
  IdealRules.named_const.Statement Cert.Kernel3Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
-- ==== Pre_finite.lean ====
abbrev S2x8192x4096 : Shape := ⟨3, ![2, 8192, 4096]⟩
abbrev S16384x1024 : Shape := ⟨2, ![16384, 1024]⟩
abbrev S16384x3072 : Shape := ⟨2, ![16384, 3072]⟩
abbrev S16384x15360 : Shape := ⟨2, ![16384, 15360]⟩
abbrev S2x256x4096 : Shape := ⟨3, ![2, 256, 4096]⟩
abbrev S2x4x4096 : Shape := ⟨3, ![2, 4, 4096]⟩
abbrev S4096 : Shape := ⟨1, ![4096]⟩
abbrev S2x1024 : Shape := ⟨2, ![2, 1024]⟩
abbrev S2x3x1024x4096 : Shape := ⟨4, ![2, 3, 1024, 4096]⟩
abbrev S2x4096x4096 : Shape := ⟨3, ![2, 4096, 4096]⟩
abbrev S2x4096x8192 : Shape := ⟨3, ![2, 4096, 8192]⟩
abbrev S2x4096x16384 : Shape := ⟨3, ![2, 4096, 16384]⟩
abbrev S2x16384x4096 : Shape := ⟨3, ![2, 16384, 4096]⟩
abbrev S_ : Shape := ⟨0, ![]⟩

class Facts : Prop where
  bcast_S_S2x8192x4096 : S_.BroadcastsInDim S2x8192x4096 (![] : Fin 0 → Fin S2x8192x4096.rank)
  bcast_S_S16384x1024 : S_.BroadcastsInDim S16384x1024 (![] : Fin 0 → Fin S16384x1024.rank)
  bcast_S_S16384x3072 : S_.BroadcastsInDim S16384x3072 (![] : Fin 0 → Fin S16384x3072.rank)
  bcast_S_S16384x15360 : S_.BroadcastsInDim S16384x15360 (![] : Fin 0 → Fin S16384x15360.rank)
  bcast_S_S2x256x4096 : S_.BroadcastsInDim S2x256x4096 (![] : Fin 0 → Fin S2x256x4096.rank)
  bcast_S_S2x4x4096 : S_.BroadcastsInDim S2x4x4096 (![] : Fin 0 → Fin S2x4x4096.rank)
  bcast_S_S2x1024 : S_.BroadcastsInDim S2x1024 (![] : Fin 0 → Fin S2x1024.rank)
  bcast_S_S2x3x1024x4096 : S_.BroadcastsInDim S2x3x1024x4096 (![] : Fin 0 → Fin S2x3x1024x4096.rank)
  bcast_S_S2x4096x4096 : S_.BroadcastsInDim S2x4096x4096 (![] : Fin 0 → Fin S2x4096x4096.rank)
  bcast_S_S2x4096x8192 : S_.BroadcastsInDim S2x4096x8192 (![] : Fin 0 → Fin S2x4096x8192.rank)

variable [Facts]

def fn_part3 {F : FTy → Type} [FloatOps F] (main_v2 : IVec S2x8192x4096 1) (main_v21 : IVec S16384x1024 1) (main_v28 : IVec S16384x3072 1) (main_v31 : IVec S16384x15360 1) (main_v34 : IVec S2x256x4096 1) (main_v37 : IVec S2x4x4096 1) (main_v44 : IVec S2x1024 1) (main_v47 : IVec S2x3x1024x4096 1) (main_v54 : IVec S2x4096x4096 1) (main_v55 : FVec F S2x4096x8192 .f32) : IVec S2x8192x4096 1 × IVec S16384x1024 1 × IVec S16384x3072 1 × IVec S16384x15360 1 × IVec S2x256x4096 1 × IVec S2x4x4096 1 × IVec S2x1024 1 × IVec S2x3x1024x4096 1 × IVec S2x4096x4096 1 × IVec S2x4096x8192 1 :=
  let main_cst_15 : FVec F S_ .f32 := constant S_ .f32 0x7F800000#32
  let main_v56 : FVec F S2x4096x8192 .f32 := broadcastInDim S2x4096x8192 ![] bcast_S_S2x4096x8192 main_cst_15
  let main_v57 : IVec S2x4096x8192 1 := cmpf .olt main_v55 main_v56
  (main_v2, main_v21, main_v28, main_v31, main_v34, main_v37, main_v44, main_v47, main_v54, main_v57)

def fn_part2 {F : FTy → Type} [FloatOps F] (main_arg12 : FVec F S2x1024 .f32) (main_arg13 : FVec F S2x1024 .f32) (main_arg14 : FVec F S2x3x1024x4096 .f32) (main_arg15 : FVec F S2x4096x4096 .f32) (main_arg16 : FVec F S2x4096x4096 .f32) (main_arg17 : FVec F S2x4096x8192 .f32) (main_v2 : IVec S2x8192x4096 1) (main_v21 : IVec S16384x1024 1) (main_v28 : IVec S16384x3072 1) (main_v31 : IVec S16384x15360 1) (main_v34 : IVec S2x256x4096 1) (main_v35 : FVec F S2x4x4096 .f32) (main_v36 : FVec F S2x4x4096 .f32) : IVec S2x8192x4096 1 × IVec S16384x1024 1 × IVec S16384x3072 1 × IVec S16384x15360 1 × IVec S2x256x4096 1 × IVec S2x4x4096 1 × IVec S2x1024 1 × IVec S2x3x1024x4096 1 × IVec S2x4096x4096 1 × IVec S2x4096x8192 1 :=
  let main_v37 : IVec S2x4x4096 1 := cmpf .olt main_v35 main_v36
  let main_v38 : FVec F S2x1024 .f32 := Host.absf main_arg12
  let main_cst_10 : FVec F S_ .f32 := constant S_ .f32 0x7F800000#32
  let main_v39 : FVec F S2x1024 .f32 := broadcastInDim S2x1024 ![] bcast_S_S2x1024 main_cst_10
  let main_v40 : IVec S2x1024 1 := cmpf .olt main_v38 main_v39
  let main_v41 : FVec F S2x1024 .f32 := Host.absf main_arg13
  let main_cst_11 : FVec F S_ .f32 := constant S_ .f32 0x7F800000#32
  let main_v42 : FVec F S2x1024 .f32 := broadcastInDim S2x1024 ![] bcast_S_S2x1024 main_cst_11
  let main_v43 : IVec S2x1024 1 := cmpf .olt main_v41 main_v42
  let main_v44 : IVec S2x1024 1 := andi main_v40 main_v43
  let main_v45 : FVec F S2x3x1024x4096 .f32 := Host.absf main_arg14
  let main_cst_12 : FVec F S_ .f32 := constant S_ .f32 0x7F800000#32
  let main_v46 : FVec F S2x3x1024x4096 .f32 := broadcastInDim S2x3x1024x4096 ![] bcast_S_S2x3x1024x4096 main_cst_12
  let main_v47 : IVec S2x3x1024x4096 1 := cmpf .olt main_v45 main_v46
  let main_v48 : FVec F S2x4096x4096 .f32 := Host.absf main_arg15
  let main_cst_13 : FVec F S_ .f32 := constant S_ .f32 0x7F800000#32
  let main_v49 : FVec F S2x4096x4096 .f32 := broadcastInDim S2x4096x4096 ![] bcast_S_S2x4096x4096 main_cst_13
  let main_v50 : IVec S2x4096x4096 1 := cmpf .olt main_v48 main_v49
  let main_v51 : FVec F S2x4096x4096 .f32 := Host.absf main_arg16
  let main_cst_14 : FVec F S_ .f32 := constant S_ .f32 0x7F800000#32
  let main_v52 : FVec F S2x4096x4096 .f32 := broadcastInDim S2x4096x4096 ![] bcast_S_S2x4096x4096 main_cst_14
  let main_v53 : IVec S2x4096x4096 1 := cmpf .olt main_v51 main_v52
  let main_v54 : IVec S2x4096x4096 1 := andi main_v50 main_v53
  let main_v55 : FVec F S2x4096x8192 .f32 := Host.absf main_arg17
  fn_part3 (F := F) main_v2 main_v21 main_v28 main_v31 main_v34 main_v37 main_v44 main_v47 main_v54 main_v55

def fn_part1 {F : FTy → Type} [FloatOps F] (main_arg6 : FVec F S16384x3072 .bf16) (main_arg7 : FVec F S16384x3072 .bf16) (main_arg8 : FVec F S16384x15360 .bf16) (main_arg9 : FVec F S2x256x4096 .f32) (main_arg10 : FVec F S2x4x4096 .f32) (main_arg12 : FVec F S2x1024 .f32) (main_arg13 : FVec F S2x1024 .f32) (main_arg14 : FVec F S2x3x1024x4096 .f32) (main_arg15 : FVec F S2x4096x4096 .f32) (main_arg16 : FVec F S2x4096x4096 .f32) (main_arg17 : FVec F S2x4096x8192 .f32) (main_v2 : IVec S2x8192x4096 1) (main_v17 : IVec S16384x1024 1) (main_v18 : FVec F S16384x1024 .bf16) : IVec S2x8192x4096 1 × IVec S16384x1024 1 × IVec S16384x3072 1 × IVec S16384x15360 1 × IVec S2x256x4096 1 × IVec S2x4x4096 1 × IVec S2x1024 1 × IVec S2x3x1024x4096 1 × IVec S2x4096x4096 1 × IVec S2x4096x8192 1 :=
  let main_cst_4 : FVec F S_ .bf16 := constant S_ .bf16 0x7F80#16
  let main_v19 : FVec F S16384x1024 .bf16 := broadcastInDim S16384x1024 ![] bcast_S_S16384x1024 main_cst_4
  let main_v20 : IVec S16384x1024 1 := cmpf .olt main_v18 main_v19
  let main_v21 : IVec S16384x1024 1 := andi main_v17 main_v20
  let main_v22 : FVec F S16384x3072 .bf16 := Host.absf main_arg6
  let main_cst_5 : FVec F S_ .bf16 := constant S_ .bf16 0x7F80#16
  let main_v23 : FVec F S16384x3072 .bf16 := broadcastInDim S16384x3072 ![] bcast_S_S16384x3072 main_cst_5
  let main_v24 : IVec S16384x3072 1 := cmpf .olt main_v22 main_v23
  let main_v25 : FVec F S16384x3072 .bf16 := Host.absf main_arg7
  let main_cst_6 : FVec F S_ .bf16 := constant S_ .bf16 0x7F80#16
  let main_v26 : FVec F S16384x3072 .bf16 := broadcastInDim S16384x3072 ![] bcast_S_S16384x3072 main_cst_6
  let main_v27 : IVec S16384x3072 1 := cmpf .olt main_v25 main_v26
  let main_v28 : IVec S16384x3072 1 := andi main_v24 main_v27
  let main_v29 : FVec F S16384x15360 .bf16 := Host.absf main_arg8
  let main_cst_7 : FVec F S_ .bf16 := constant S_ .bf16 0x7F80#16
  let main_v30 : FVec F S16384x15360 .bf16 := broadcastInDim S16384x15360 ![] bcast_S_S16384x15360 main_cst_7
  let main_v31 : IVec S16384x15360 1 := cmpf .olt main_v29 main_v30
  let main_v32 : FVec F S2x256x4096 .f32 := Host.absf main_arg9
  let main_cst_8 : FVec F S_ .f32 := constant S_ .f32 0x7F800000#32
  let main_v33 : FVec F S2x256x4096 .f32 := broadcastInDim S2x256x4096 ![] bcast_S_S2x256x4096 main_cst_8
  let main_v34 : IVec S2x256x4096 1 := cmpf .olt main_v32 main_v33
  let main_v35 : FVec F S2x4x4096 .f32 := Host.absf main_arg10
  let main_cst_9 : FVec F S_ .f32 := constant S_ .f32 0x7F800000#32
  let main_v36 : FVec F S2x4x4096 .f32 := broadcastInDim S2x4x4096 ![] bcast_S_S2x4x4096 main_cst_9
  fn_part2 (F := F) main_arg12 main_arg13 main_arg14 main_arg15 main_arg16 main_arg17 main_v2 main_v21 main_v28 main_v31 main_v34 main_v35 main_v36

def fn {F : FTy → Type} [FloatOps F] (main_arg0 : FVec F S2x8192x4096 .f32) (main_arg1 : FVec F S16384x1024 .f32) (main_arg2 : FVec F S16384x1024 .f32) (main_arg3 : FVec F S16384x1024 .f32) (main_arg4 : FVec F S16384x1024 .f32) (main_arg5 : FVec F S16384x1024 .bf16) (main_arg6 : FVec F S16384x3072 .bf16) (main_arg7 : FVec F S16384x3072 .bf16) (main_arg8 : FVec F S16384x15360 .bf16) (main_arg9 : FVec F S2x256x4096 .f32) (main_arg10 : FVec F S2x4x4096 .f32) (main_arg11 : FVec F S4096 .f32) (main_arg12 : FVec F S2x1024 .f32) (main_arg13 : FVec F S2x1024 .f32) (main_arg14 : FVec F S2x3x1024x4096 .f32) (main_arg15 : FVec F S2x4096x4096 .f32) (main_arg16 : FVec F S2x4096x4096 .f32) (main_arg17 : FVec F S2x4096x8192 .f32) (main_arg18 : FVec F S2x4096x4096 .f32) (main_arg19 : FVec F S2x4096x16384 .f32) (main_arg20 : FVec F S2x16384x4096 .f32) : IVec S2x8192x4096 1 × IVec S16384x1024 1 × IVec S16384x3072 1 × IVec S16384x15360 1 × IVec S2x256x4096 1 × IVec S2x4x4096 1 × IVec S2x1024 1 × IVec S2x3x1024x4096 1 × IVec S2x4096x4096 1 × IVec S2x4096x8192 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : IVec S16384x1024 1 := andi main_v5 main_v8
  let main_v10 : FVec F S16384x1024 .f32 := Host.absf main_arg3
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_v13 : IVec S16384x1024 1 := andi main_v9 main_v12
  let main_v14 : FVec F S16384x1024 .f32 := Host.absf main_arg4
  let main_cst_3 : FVec F S_ .f32 := constant S_ .f32 0x7F800000#32
  let main_v15 : FVec F S16384x1024 .f32 := broadcastInDim S16384x1024 ![] bcast_S_S16384x1024 main_cst_3
  let main_v16 : IVec S16384x1024 1 := cmpf .olt main_v14 main_v15
  let main_v17 : IVec S16384x1024 1 := andi main_v13 main_v16
  let main_v18 : FVec F S16384x1024 .bf16 := Host.absf main_arg5
  fn_part1 (F := F) main_arg6 main_arg7 main_arg8 main_arg9 main_arg10 main_arg12 main_arg13 main_arg14 main_arg15 main_arg16 main_arg17 main_v2 main_v17 main_v18
-- ==== Kernel.lean ====
abbrev S2x8192x4096 : Shape := ⟨3, ![2, 8192, 4096]⟩
abbrev S2x4x4096 : Shape := ⟨3, ![2, 4, 4096]⟩
abbrev S2x4096x21552 : Shape := ⟨3, ![2, 4096, 21552]⟩
abbrev S2x21552 : Shape := ⟨2, ![2, 21552]⟩
abbrev S2x21552x4096 : Shape := ⟨3, ![2, 21552, 4096]⟩
abbrev S2x3072 : Shape := ⟨2, ![2, 3072]⟩
abbrev S2x1x3072 : Shape := ⟨3, ![2, 1, 3072]⟩
abbrev S2x15360 : Shape := ⟨2, ![2, 15360]⟩
abbrev S2x1x15360 : Shape := ⟨3, ![2, 1, 15360]⟩
abbrev S2x16x4096 : Shape := ⟨3, ![2, 16, 4096]⟩
abbrev S2x32x4096 : Shape := ⟨3, ![2, 32, 4096]⟩
abbrev S2x48x4096 : Shape := ⟨3, ![2, 48, 4096]⟩
abbrev S_ : Shape := ⟨0, ![]⟩
abbrev S2x128x4096 : Shape := ⟨3, ![2, 128, 4096]⟩
abbrev S2x16 : Shape := ⟨2, ![2, 16]⟩
abbrev S2x32 : Shape := ⟨2, ![2, 32]⟩
abbrev S2x48 : Shape := ⟨2, ![2, 48]⟩
abbrev S2x128 : Shape := ⟨2, ![2, 128]⟩
abbrev S2x1x128 : Shape := ⟨3, ![2, 1, 128]⟩
abbrev S16384x4096 : Shape := ⟨2, ![16384, 4096]⟩
abbrev S1x4x4096 : Shape := ⟨3, ![1, 4, 4096]⟩
abbrev S4x4096 : Shape := ⟨2, ![4, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S16384x3072 : Shape := ⟨2, ![16384, 3072]⟩
abbrev S1024x4096 : Shape := ⟨2, ![1024, 4096]⟩
abbrev S1x1024x4096 : Shape := ⟨3, ![1, 1024, 4096]⟩
abbrev S1x1x1024 : Shape := ⟨3, ![1, 1, 1024]⟩
abbrev S1024x1024 : Shape := ⟨2, ![1024, 1024]⟩
abbrev S1x1024 : Shape := ⟨2, ![1, 1024]⟩
abbrev S16384x15360 : Shape := ⟨2, ![16384, 15360]⟩
abbrev S16384x128 : Shape := ⟨2, ![16384, 128]⟩
abbrev S1x128x4096 : Shape := ⟨3, ![1, 128, 4096]⟩
abbrev S1x1x128 : Shape := ⟨3, ![1, 1, 128]⟩
abbrev S1024x128 : Shape := ⟨2, ![1024, 128]⟩
abbrev S128x4096 : Shape := ⟨2, ![128, 4096]⟩
abbrev S1x128 : Shape := ⟨2, ![1, 128]⟩
abbrev S16384x48 : Shape := ⟨2, ![16384, 48]⟩

abbrev nBuf : Space → Nat
  | .hbm => 37
  | .vmem => 35
  | .smem => 0
  | _ => 0

abbrev bufTy : (tb : Table) → Fin (tcTables nBuf tb) → BufTy
  | .hbm, ⟨0, _⟩ => ⟨S2x8192x4096, .f32⟩
  | .hbm, ⟨1, _⟩ => ⟨S2x4x4096, .f32⟩
  | .hbm, ⟨2, _⟩ => ⟨S2x4096x21552, .f32⟩
  | .hbm, ⟨3, _⟩ => ⟨S2x21552, .f32⟩
  | .hbm, ⟨4, _⟩ => ⟨S2x21552x4096, .f32⟩
  | .hbm, ⟨5, _⟩ => ⟨S2x21552x4096, .bf16⟩
  | .hbm, ⟨6, _⟩ => ⟨S2x3072, .f32⟩
  | .hbm, ⟨7, _⟩ => ⟨S2x1x3072, .f32⟩
  | .hbm, ⟨8, _⟩ => ⟨S2x3072, .f32⟩
  | .hbm, ⟨9, _⟩ => ⟨S2x1x3072, .f32⟩
  | .hbm, ⟨10, _⟩ => ⟨S2x15360, .f32⟩
  | .hbm, ⟨11, _⟩ => ⟨S2x1x15360, .f32⟩
  | .hbm, ⟨12, _⟩ => ⟨S2x16x4096, .bf16⟩
  | .hbm, ⟨13, _⟩ => ⟨S2x32x4096, .bf16⟩
  | .hbm, ⟨14, _⟩ => ⟨S2x48x4096, .bf16⟩
  | .hbm, ⟨15, _⟩ => ⟨S_, .i32⟩
  | .hbm, ⟨16, _⟩ => ⟨S_, .bf16⟩
  | .hbm, ⟨17, _⟩ => ⟨S2x128x4096, .bf16⟩
  | .hbm, ⟨18, _⟩ => ⟨S2x16, .f32⟩
  | .hbm, ⟨19, _⟩ => ⟨S2x32, .f32⟩
  | .hbm, ⟨20, _⟩ => ⟨S2x48, .f32⟩
  | .hbm, ⟨21, _⟩ => ⟨S_, .i32⟩
  | .hbm, ⟨22, _⟩ => ⟨S_, .f32⟩
  | .hbm, ⟨23, _⟩ => ⟨S2x128, .f32⟩
  | .hbm, ⟨24, _⟩ => ⟨S2x1x128, .f32⟩
  | .hbm, ⟨25, _⟩ => ⟨S16384x4096, .f32⟩
  | .hbm, ⟨26, _⟩ => ⟨S1x4x4096, .f32⟩
  | .hbm, ⟨27, _⟩ => ⟨S4x4096, .f32⟩
  | .hbm, ⟨28, _⟩ => ⟨S1x4096, .f32⟩
  | .hbm, ⟨29, _⟩ => ⟨S4096, .f32⟩
  | .hbm, ⟨30, _⟩ => ⟨S1x4096, .f32⟩
  | .hbm, ⟨31, _⟩ => ⟨S16384x4096, .bf16⟩
  | .hbm, ⟨32, _⟩ => ⟨S16384x3072, .bf16⟩
  | .hbm, ⟨33, _⟩ => ⟨S16384x3072, .bf16⟩
  | .hbm, ⟨34, _⟩ => ⟨S16384x15360, .bf16⟩
  | .hbm, ⟨35, _⟩ => ⟨S16384x128, .f32⟩
  | .hbm, ⟨36, _⟩ => ⟨S16384x48, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1x1024x4096, .bf16⟩
  | .local _ .vmem, ⟨8, _⟩ => ⟨S1x1024x4096, .bf16⟩
  | .local _ .vmem, ⟨9, _⟩ => ⟨S1x1x1024, .f32⟩
  | .local _ .vmem, ⟨10, _⟩ => ⟨S1x1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x4096, .bf16⟩
  | .local _ .vmem, ⟨14, _⟩ => ⟨S1024x4096, .bf16⟩
  | .local _ .vmem, ⟨15, _⟩ => ⟨S1x1024x4096, .bf16⟩
  | .local _ .vmem, ⟨16, _⟩ => ⟨S1x1024x4096, .bf16⟩
  | .local _ .vmem, ⟨17, _⟩ => ⟨S1x1x1024, .f32⟩
  | .local _ .vmem, ⟨18, _⟩ => ⟨S1x1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x4096, .bf16⟩
  | .local _ .vmem, ⟨22, _⟩ => ⟨S1024x4096, .bf16⟩
  | .local _ .vmem, ⟨23, _⟩ => ⟨S1x1024x4096, .bf16⟩
  | .local _ .vmem, ⟨24, _⟩ => ⟨S1x1024x4096, .bf16⟩
  | .local _ .vmem, ⟨25, _⟩ => ⟨S1x1x1024, .f32⟩
  | .local _ .vmem, ⟨26, _⟩ => ⟨S1x1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x4096, .bf16⟩
  | .local _ .vmem, ⟨30, _⟩ => ⟨S1024x4096, .bf16⟩
  | .local _ .vmem, ⟨31, _⟩ => ⟨S1x128x4096, .bf16⟩
  | .local _ .vmem, ⟨32, _⟩ => ⟨S1x1x128, .f32⟩
  | .local _ .vmem, ⟨33, _⟩ => ⟨S1024x128, .f32⟩
  | .local _ .vmem, ⟨34, _⟩ => ⟨S1024x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 3, 1], ![false, false, false]⟩

def k1_mult1 (i : grid1.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c4096_i32 : BitVec 32 := 4096#32
  let v3 : BitVec 32 := Scalar.muli arg2 c4096_i32
  let c0_i32_0 : BitVec 32 := 0#32
  let c0_i32_1 : BitVec 32 := 0#32
  ![c0_i32_0.toNat, v2.toNat, v3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 3, 1], ![false, false, false]⟩

def k2_mult1 (i : grid2.Coords) : BitVec 32 :=
  let c3088_i32 : BitVec 32 := 3088#32
  let arg1 : BitVec 32 := BitVec.ofNat 32 (i 1).val
  let c1024_i32 : BitVec 32 := 1024#32
  let v0 : BitVec 32 := Scalar.muli arg1 c1024_i32
  let v1 : BitVec 32 := Scalar.addi c3088_i32 v0
  v1
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c3088_i32 : BitVec 32 := 3088#32
  let v1 : BitVec 32 := Scalar.addi c3088_i32 v0
  let v2 : BitVec 32 := v1
  let c4096_i32 : BitVec 32 := 4096#32
  let v3 : BitVec 32 := Scalar.muli arg2 c4096_i32
  let c0_i32 : BitVec 32 := 0#32
  let c0_i32_0 : BitVec 32 := 0#32
  ![c0_i32.toNat, v2.toNat, v3.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 15, 1], ![false, false, false]⟩

def k3_mult1 (i : grid3.Coords) : BitVec 32 :=
  let c6192_i32 : BitVec 32 := 6192#32
  let arg1 : BitVec 32 := BitVec.ofNat 32 (i 1).val
  let c1024_i32 : BitVec 32 := 1024#32
  let v0 : BitVec 32 := Scalar.muli arg1 c1024_i32
  let v1 : BitVec 32 := Scalar.addi c6192_i32 v0
  v1
def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c6192_i32 : BitVec 32 := 6192#32
  let v1 : BitVec 32 := Scalar.addi c6192_i32 v0
  let v2 : BitVec 32 := v1
  let c4096_i32 : BitVec 32 := 4096#32
  let v3 : BitVec 32 := Scalar.muli arg2 c4096_i32
  let c0_i32 : BitVec 32 := 0#32
  let c0_i32_0 : BitVec 32 := 0#32
  ![c0_i32.toNat, v2.toNat, v3.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![16, 1, 1], ![false, false, false]⟩

def k4_mult1 (i : grid4.Coords) : BitVec 32 :=
  let c0_i32 : BitVec 32 := 0#32
  let arg1 : BitVec 32 := BitVec.ofNat 32 (i 1).val
  let c128_i32 : BitVec 32 := 128#32
  let v0 : BitVec 32 := Scalar.muli arg1 c128_i32
  let v1 : BitVec 32 := Scalar.addi c0_i32 v0
  v1
def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 32 := Scalar.addi c0_i32 v0
  let v2 : BitVec 32 := v1
  let c4096_i32 : BitVec 32 := 4096#32
  let v3 : BitVec 32 := Scalar.muli arg2 c4096_i32
  let c0_i32_0 : BitVec 32 := 0#32
  let c0_i32_1 : BitVec 32 := 0#32
  ![c0_i32_0.toNat, v2.toNat, v3.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1x128x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== ReferenceIdeal.lean ====
abbrev S2x8192x4096 : Shape := ⟨3, ![2, 8192, 4096]⟩
abbrev S2x4x4096 : Shape := ⟨3, ![2, 4, 4096]⟩
abbrev S2x4096x21552 : Shape := ⟨3, ![2, 4096, 21552]⟩
abbrev S2x21552 : Shape := ⟨2, ![2, 21552]⟩
abbrev S1x1x4096 : Shape := ⟨3, ![1, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x4096x21552 : Shape := ⟨3, ![1, 4096, 21552]⟩
abbrev S4096x21552 : Shape := ⟨2, ![4096, 21552]⟩
abbrev S2x8192x21552 : Shape := ⟨3, ![2, 8192, 21552]⟩
abbrev S1x21552 : Shape := ⟨2, ![1, 21552]⟩
abbrev S21552 : Shape := ⟨1, ![21552]⟩
abbrev S1x1x21552 : Shape := ⟨3, ![1, 1, 21552]⟩
abbrev S16384x21552 : Shape := ⟨2, ![16384, 21552]⟩
abbrev S16384x3072 : Shape := ⟨2, ![16384, 3072]⟩
abbrev S16384x16 : Shape := ⟨2, ![16384, 16]⟩
abbrev S16384x32 : Shape := ⟨2, ![16384, 32]⟩
abbrev S16384x15360 : Shape := ⟨2, ![16384, 15360]⟩
abbrev S16384x48 : Shape := ⟨2, ![16384, 48]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x4x4096, .f32⟩
  | .hbm, ⟨2, _⟩ => ⟨S2x4096x21552, .f32⟩
  | .hbm, ⟨3, _⟩ => ⟨S2x21552, .f32⟩
  | .hbm, ⟨4, _⟩ => ⟨S1x1x4096, .f32⟩
  | .hbm, ⟨5, _⟩ => ⟨S4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S1x4096x21552, .f32⟩
  | .hbm, ⟨23, _⟩ => ⟨S4096x21552, .f32⟩
  | .hbm, ⟨24, _⟩ => ⟨S2x8192x21552, .f32⟩
  | .hbm, ⟨25, _⟩ => ⟨S1x21552, .f32⟩
  | .hbm, ⟨26, _⟩ => ⟨S21552, .f32⟩
  | .hbm, ⟨27, _⟩ => ⟨S1x1x21552, .f32⟩
  | .hbm, ⟨28, _⟩ => ⟨S2x8192x21552, .f32⟩
  | .hbm, ⟨29, _⟩ => ⟨S2x8192x21552, .f32⟩
  | .hbm, ⟨30, _⟩ => ⟨S16384x21552, .f32⟩
  | .hbm, ⟨31, _⟩ => ⟨S16384x3072, .f32⟩
  | .hbm, ⟨32, _⟩ => ⟨S16384x16, .f32⟩
  | .hbm, ⟨33, _⟩ => ⟨S16384x3072, .f32⟩
  | .hbm, ⟨34, _⟩ => ⟨S16384x32, .f32⟩
  | .hbm, ⟨35, _⟩ => ⟨S16384x15360, .f32⟩
  | .hbm, ⟨36, _⟩ => ⟨S16384x3072, .bf16⟩
  | .hbm, ⟨37, _⟩ => ⟨S16384x3072, .bf16⟩
  | .hbm, ⟨38, _⟩ => ⟨S16384x15360, .bf16⟩
  | .hbm, ⟨39, _⟩ => ⟨S16384x48, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel2.lean ====
abbrev S2x8192x4096 : Shape := ⟨3, ![2, 8192, 4096]⟩
abbrev S16384x1024 : Shape := ⟨2, ![16384, 1024]⟩
abbrev S16384x3072 : Shape := ⟨2, ![16384, 3072]⟩
abbrev S16384x15360 : Shape := ⟨2, ![16384, 15360]⟩
abbrev S2x256x4096 : Shape := ⟨3, ![2, 256, 4096]⟩
abbrev S2x4x4096 : Shape := ⟨3, ![2, 4, 4096]⟩
abbrev S4096 : Shape := ⟨1, ![4096]⟩
abbrev S2x1024 : Shape := ⟨2, ![2, 1024]⟩
abbrev S2x3x1024x4096 : Shape := ⟨4, ![2, 3, 1024, 4096]⟩
abbrev S2x4096x4096 : Shape := ⟨3, ![2, 4096, 4096]⟩
abbrev S2x4096x8192 : Shape := ⟨3, ![2, 4096, 8192]⟩
abbrev S2x4096x16384 : Shape := ⟨3, ![2, 4096, 16384]⟩
abbrev S2x16384x4096 : Shape := ⟨3, ![2, 16384, 4096]⟩
abbrev S16384x4096 : Shape := ⟨2, ![16384, 4096]⟩
abbrev S512x4096 : Shape := ⟨2, ![512, 4096]⟩
abbrev S1x4x4096 : Shape := ⟨3, ![1, 4, 4096]⟩
abbrev S4x4096 : Shape := ⟨2, ![4, 4096]⟩
abbrev S1x1024 : Shape := ⟨2, ![1, 1024]⟩
abbrev S1024 : Shape := ⟨1, ![1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1x3x1024x1024 : Shape := ⟨4, ![1, 3, 1024, 1024]⟩
abbrev S1x1x1024x1024 : Shape := ⟨4, ![1, 1, 1024, 1024]⟩
abbrev S1024x4096 : Shape := ⟨2, ![1024, 4096]⟩
abbrev S1x4096x1024 : Shape := ⟨3, ![1, 4096, 1024]⟩
abbrev S4096x1024 : Shape := ⟨2, ![4096, 1024]⟩
abbrev S1x4096 : Shape := ⟨2, ![1, 4096]⟩
abbrev S512x8192 : Shape := ⟨2, ![512, 8192]⟩
abbrev S256x1024 : Shape := ⟨2, ![256, 1024]⟩
abbrev S1024x256 : Shape := ⟨2, ![1024, 256]⟩
abbrev S1024x1 : Shape := ⟨2, ![1024, 1]⟩
abbrev S16384x16384 : Shape := ⟨2, ![16384, 16384]⟩
abbrev S512x16384 : Shape := ⟨2, ![512, 16384]⟩
abbrev S1x16384x256 : Shape := ⟨3, ![1, 16384, 256]⟩
abbrev S16384x256 : Shape := ⟨2, ![16384, 256]⟩

abbrev nBuf : Space → Nat
  | .hbm => 63
  | .vmem => 101
  | .smem => 0
  | _ => 0

abbrev bufTy : (tb : Table) → Fin (tcTables nBuf tb) → BufTy
  | .hbm, ⟨0, _⟩ => ⟨S2x8192x4096, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S16384x3072, .bf16⟩
  | .hbm, ⟨7, _⟩ => ⟨S16384x3072, .bf16⟩
  | .hbm, ⟨8, _⟩ => ⟨S16384x15360, .bf16⟩
  | .hbm, ⟨9, _⟩ => ⟨S2x256x4096, .f32⟩
  | .hbm, ⟨10, _⟩ => ⟨S2x4x4096, .f32⟩
  | .hbm, ⟨11, _⟩ => ⟨S4096, .f32⟩
  | .hbm, ⟨12, _⟩ => ⟨S2x1024, .f32⟩
  | .hbm, ⟨13, _⟩ => ⟨S2x1024, .f32⟩
  | .hbm, ⟨14, _⟩ => ⟨S2x3x1024x4096, .f32⟩
  | .hbm, ⟨15, _⟩ => ⟨S2x4096x4096, .f32⟩
  | .hbm, ⟨16, _⟩ => ⟨S2x4096x4096, .f32⟩
  | .hbm, ⟨17, _⟩ => ⟨S2x4096x8192, .f32⟩
  | .hbm, ⟨18, _⟩ => ⟨S2x4096x4096, .f32⟩
  | .hbm, ⟨19, _⟩ => ⟨S2x4096x16384, .f32⟩
  | .hbm, ⟨20, _⟩ => ⟨S2x16384x4096, .f32⟩
  | .hbm, ⟨21, _⟩ => ⟨S2x3x1024x4096, .bf16⟩
  | .hbm, ⟨22, _⟩ => ⟨S2x4096x4096, .bf16⟩
  | .hbm, ⟨23, _⟩ => ⟨S2x4096x4096, .bf16⟩
  | .hbm, ⟨24, _⟩ => ⟨S2x4096x8192, .bf16⟩
  | .hbm, ⟨25, _⟩ => ⟨S2x4096x4096, .bf16⟩
  | .hbm, ⟨26, _⟩ => ⟨S2x4096x16384, .bf16⟩
  | .hbm, ⟨27, _⟩ => ⟨S2x16384x4096, .bf16⟩
  | .hbm, ⟨28, _⟩ => ⟨S16384x4096, .f32⟩
  | .hbm, ⟨29, _⟩ => ⟨S512x4096, .f32⟩
  | .hbm, ⟨30, _⟩ => ⟨S1x4x4096, .f32⟩
  | .hbm, ⟨31, _⟩ => ⟨S4x4096, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S16384x1024, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S16384x1024, .bf16⟩
  | .hbm, ⟨40, _⟩ => ⟨S16384x4096, .bf16⟩
  | .hbm, ⟨41, _⟩ => ⟨S16384x4096, .f32⟩
  | .hbm, ⟨42, _⟩ => ⟨S1x4096, .f32⟩
  | .hbm, ⟨43, _⟩ => ⟨S4096, .f32⟩
  | .hbm, ⟨44, _⟩ => ⟨S1x4096, .f32⟩
  | .hbm, ⟨45, _⟩ => ⟨S16384x4096, .bf16⟩
  | .hbm, ⟨46, _⟩ => ⟨S1x4096, .f32⟩
  | .hbm, ⟨47, _⟩ => ⟨S4096, .f32⟩
  | .hbm, ⟨48, _⟩ => ⟨S1x4096, .f32⟩
  | .hbm, ⟨49, _⟩ => ⟨S512x4096, .bf16⟩
  | .hbm, ⟨50, _⟩ => ⟨S16384x4096, .bf16⟩
  | .hbm, ⟨51, _⟩ => ⟨S512x8192, .bf16⟩
  | .hbm, ⟨52, _⟩ => ⟨S16384x4096, .bf16⟩
  | .hbm, ⟨53, _⟩ => ⟨S16384x4096, .f32⟩
  | .hbm, ⟨54, _⟩ => ⟨S1x4096, .f32⟩
  | .hbm, ⟨55, _⟩ => ⟨S4096, .f32⟩
  | .hbm, ⟨56, _⟩ => ⟨S1x4096, .f32⟩
  | .hbm, ⟨57, _⟩ => ⟨S16384x4096, .bf16⟩
  | .hbm, ⟨58, _⟩ => ⟨S16384x16384, .bf16⟩
  | .hbm, ⟨59, _⟩ => ⟨S16384x4096, .f32⟩
  | .hbm, ⟨60, _⟩ => ⟨S1x4096, .f32⟩
  | .hbm, ⟨61, _⟩ => ⟨S16384x4096, .f32⟩
  | .hbm, ⟨62, _⟩ => ⟨S2x8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x3x1024x1024, .bf16⟩
  | .local _ .vmem, ⟨31, _⟩ => ⟨S1x3x1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x4096, .bf16⟩
  | .local _ .vmem, ⟨35, _⟩ => ⟨S1024x4096, .bf16⟩
  | .local _ .vmem, ⟨36, _⟩ => ⟨S1x4096x1024, .bf16⟩
  | .local _ .vmem, ⟨37, _⟩ => ⟨S1x4096x1024, .bf16⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | .local _ .vmem, ⟨42, _⟩ => ⟨S512x4096, .f32⟩
  | .local _ .vmem, ⟨43, _⟩ => ⟨S512x4096, .f32⟩
  | .local _ .vmem, ⟨44, _⟩ => ⟨S1x4096, .f32⟩
  | .local _ .vmem, ⟨45, _⟩ => ⟨S512x4096, .bf16⟩
  | .local _ .vmem, ⟨46, _⟩ => ⟨S512x4096, .bf16⟩
  | .local _ .vmem, ⟨47, _⟩ => ⟨S512x4096, .f32⟩
  | .local _ .vmem, ⟨48, _⟩ => ⟨S1x4096, .f32⟩
  | .local _ .vmem, ⟨49, _⟩ => ⟨S512x4096, .bf16⟩
  | .local _ .vmem, ⟨50, _⟩ => ⟨S1024x4096, .bf16⟩
  | .local _ .vmem, ⟨51, _⟩ => ⟨S1024x4096, .bf16⟩
  | .local _ .vmem, ⟨52, _⟩ => ⟨S1x4096x1024, .bf16⟩
  | .local _ .vmem, ⟨53, _⟩ => ⟨S1x4096x1024, .bf16⟩
  | .local _ .vmem, ⟨54, _⟩ => ⟨S1024x1024, .bf16⟩
  | .local _ .vmem, ⟨55, _⟩ => ⟨S1024x1024, .bf16⟩
  | .local _ .vmem, ⟨56, _⟩ => ⟨S512x4096, .bf16⟩
  | .local _ .vmem, ⟨57, _⟩ => ⟨S1x4096x1024, .bf16⟩
  | .local _ .vmem, ⟨58, _⟩ => ⟨S1x4096x1024, .bf16⟩
  | .local _ .vmem, ⟨59, _⟩ => ⟨S512x1024, .bf16⟩
  | .local _ .vmem, ⟨60, _⟩ => ⟨S512x1024, .bf16⟩
  | .local _ .vmem, ⟨61, _⟩ => ⟨S1024x1024, .bf16⟩
  | .local _ .vmem, ⟨62, _⟩ => ⟨S1024x1024, .bf16⟩
  | .local _ .vmem, ⟨63, _⟩ => ⟨S256x1024, .bf16⟩
  | .local _ .vmem, ⟨64, _⟩ => ⟨S256x1024, .bf16⟩
  | .local _ .vmem, ⟨65, _⟩ => ⟨S256x1024, .bf16⟩
  | .local _ .vmem, ⟨66, _⟩ => ⟨S256x1024, .bf16⟩
  | .local _ .vmem, ⟨67, _⟩ => ⟨S1024x1024, .bf16⟩
  | .local _ .vmem, ⟨68, _⟩ => ⟨S1024x1024, .bf16⟩
  | .local _ .vmem, ⟨69, _⟩ => ⟨S1024x4096, .bf16⟩
  | .local _ .vmem, ⟨70, _⟩ => ⟨S1024x4096, .bf16⟩
  | .local _ .vmem, ⟨71, _⟩ => ⟨S1x4096x1024, .bf16⟩
  | .local _ .vmem, ⟨72, _⟩ => ⟨S1x4096x1024, .bf16⟩
  | .local _ .vmem, ⟨73, _⟩ => ⟨S1024x1024, .f32⟩
  | .local _ .vmem, ⟨74, _⟩ => ⟨S1024x1024, .f32⟩
  | .local _ .vmem, ⟨75, _⟩ => ⟨S1024x1024, .f32⟩
  | .local _ .vmem, ⟨76, _⟩ => ⟨S1024x1024, .f32⟩
  | .local _ .vmem, ⟨77, _⟩ => ⟨S512x4096, .f32⟩
  | .local _ .vmem, ⟨78, _⟩ => ⟨S512x4096, .f32⟩
  | .local _ .vmem, ⟨79, _⟩ => ⟨S1x4096, .f32⟩
  | .local _ .vmem, ⟨80, _⟩ => ⟨S512x4096, .bf16⟩
  | .local _ .vmem, ⟨81, _⟩ => ⟨S512x4096, .bf16⟩
  | .local _ .vmem, ⟨82, _⟩ => ⟨S1024x4096, .bf16⟩
  | .local _ .vmem, ⟨83, _⟩ => ⟨S1024x4096, .bf16⟩
  | .local _ .vmem, ⟨84, _⟩ => ⟨S1x4096x1024, .bf16⟩
  | .local _ .vmem, ⟨85, _⟩ => ⟨S1x4096x1024, .bf16⟩
  | .local _ .vmem, ⟨86, _⟩ => ⟨S1024x1024, .bf16⟩
  | .local _ .vmem, ⟨87, _⟩ => ⟨S1024x1024, .bf16⟩
  | .local _ .vmem, ⟨88, _⟩ => ⟨S512x16384, .bf16⟩
  | .local _ .vmem, ⟨89, _⟩ => ⟨S512x16384, .bf16⟩
  | .local _ .vmem, ⟨90, _⟩ => ⟨S1x16384x256, .bf16⟩
  | .local _ .vmem, ⟨91, _⟩ => ⟨S1x16384x256, .bf16⟩
  | .local _ .vmem, ⟨92, _⟩ => ⟨S512x256, .f32⟩
  | .local _ .vmem, ⟨93, _⟩ => ⟨S512x256, .f32⟩
  | .local _ .vmem, ⟨94, _⟩ => ⟨S512x256, .f32⟩
  | .local _ .vmem, ⟨95, _⟩ => ⟨S512x256, .f32⟩
  | .local _ .vmem, ⟨96, _⟩ => ⟨S512x4096, .f32⟩
  | .local _ .vmem, ⟨97, _⟩ => ⟨S512x4096, .f32⟩
  | .local _ .vmem, ⟨98, _⟩ => ⟨S1x4096, .f32⟩
  | .local _ .vmem, ⟨99, _⟩ => ⟨S512x4096, .f32⟩
  | .local _ .vmem, ⟨100, _⟩ => ⟨S512x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg1_0 : Ref sig .tc := ⟨.vmem, 48, rfl⟩
abbrev cc5_stg2_0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg1_1 : Ref sig .tc := ⟨.vmem, 64, rfl⟩
abbrev cc8_stg2_0 : Ref sig .tc := ⟨.vmem, 65, rfl⟩
abbrev cc8_stg2_1 : Ref sig .tc := ⟨.vmem, 66, rfl⟩
abbrev cc8_stg3_0 : Ref sig .tc := ⟨.vmem, 67, rfl⟩
abbrev cc8_stg3_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_stg3_0 : Ref sig .tc := ⟨.vmem, 75, rfl⟩
abbrev cc9_stg3_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg2_0 : Ref sig .tc := ⟨.vmem, 80, rfl⟩
abbrev cc10_stg2_1 : Ref sig .tc := ⟨.vmem, 81, rfl⟩
abbrev cc11_stg0_0 : Ref sig .tc := ⟨.vmem, 82, rfl⟩
abbrev cc11_stg0_1 : Ref sig .tc := ⟨.vmem, 83, rfl⟩
abbrev cc11_stg1_0 : Ref sig .tc := ⟨.vmem, 84, rfl⟩
abbrev cc11_stg1_1 : Ref sig .tc := ⟨.vmem, 85, rfl⟩
abbrev cc11_stg2_0 : Ref sig .tc := ⟨.vmem, 86, rfl⟩
abbrev cc11_stg2_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg1_1 : Ref sig .tc := ⟨.vmem, 91, rfl⟩
abbrev cc12_stg2_0 : Ref sig .tc := ⟨.vmem, 92, rfl⟩
abbrev cc12_stg2_1 : Ref sig .tc := ⟨.vmem, 93, rfl⟩
abbrev cc12_stg3_0 : Ref sig .tc := ⟨.vmem, 94, rfl⟩
abbrev cc12_stg3_1 : Ref sig .tc := ⟨.vmem, 95, rfl⟩
abbrev cc13_stg0_0 : Ref sig .tc := ⟨.vmem, 96, rfl⟩
abbrev cc13_stg0_1 : Ref sig .tc := ⟨.vmem, 97, rfl⟩
abbrev cc13_stg1_0 : Ref sig .tc := ⟨.vmem, 98, rfl⟩
abbrev cc13_stg2_0 : Ref sig .tc := ⟨.vmem, 99, rfl⟩
abbrev cc13_stg2_1 : Ref sig .tc := ⟨.vmem, 100, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem2_1 : DmaSem sig := 46
abbrev cc5_sem0_0 : DmaSem sig := 47
abbrev cc5_sem1_0 : DmaSem sig := 48
abbrev cc5_sem2_0 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc7_sem0_0 : DmaSem sig := 56
abbrev cc7_sem1_0 : DmaSem sig := 57
abbrev cc7_sem1_1 : DmaSem sig := 58
abbrev cc7_sem2_0 : DmaSem sig := 59
abbrev cc7_sem2_1 : DmaSem sig := 60
abbrev cc8_sem0_0 : DmaSem sig := 61
abbrev cc8_sem0_1 : DmaSem sig := 62
abbrev cc8_sem1_0 : DmaSem sig := 63
abbrev cc8_sem1_1 : DmaSem sig := 64
abbrev cc8_sem2_0 : DmaSem sig := 65
abbrev cc8_sem2_1 : DmaSem sig := 66
abbrev cc8_sem3_0 : DmaSem sig := 67
abbrev cc8_sem3_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem3_1 : DmaSem sig := 76
abbrev cc10_sem0_0 : DmaSem sig := 77
abbrev cc10_sem0_1 : DmaSem sig := 78
abbrev cc10_sem1_0 : DmaSem sig := 79
abbrev cc10_sem2_0 : DmaSem sig := 80
abbrev cc10_sem2_1 : DmaSem sig := 81
abbrev cc11_sem0_0 : DmaSem sig := 82
abbrev cc11_sem0_1 : DmaSem sig := 83
abbrev cc11_sem1_0 : DmaSem sig := 84
abbrev cc11_sem1_1 : DmaSem sig := 85
abbrev cc11_sem2_0 : DmaSem sig := 86
abbrev cc11_sem2_1 : DmaSem sig := 87
abbrev cc12_sem0_0 : DmaSem sig := 88
abbrev cc12_sem0_1 : DmaSem sig := 89
abbrev cc12_sem1_0 : DmaSem sig := 90
abbrev cc12_sem1_1 : DmaSem sig := 91
abbrev cc12_sem2_0 : DmaSem sig := 92
abbrev cc12_sem2_1 : DmaSem sig := 93
abbrev cc12_sem3_0 : DmaSem sig := 94
abbrev cc12_sem3_1 : DmaSem sig := 95
abbrev cc13_sem0_0 : DmaSem sig := 96
abbrev cc13_sem0_1 : DmaSem sig := 97
abbrev cc13_sem1_0 : DmaSem sig := 98
abbrev cc13_sem2_0 : DmaSem sig := 99
abbrev cc13_sem2_1 : DmaSem sig := 100

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc2_transform_5 (i : grid2.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc2_transform_6 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x3x1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨3, ![16, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x4096 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev grid6 : Pipeline.Grid := ⟨3, ![16, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S512x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S1x4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 8], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true, true]

abbrev stage8_1 : Fin 2 → Memref sig .tc .vmem S256x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true, false]

abbrev stage8_2 : Fin 2 → Memref sig .tc .vmem S256x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, true]

abbrev grid9 : Pipeline.Grid := ⟨3, ![16, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x4096x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1024x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x4096 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x4096 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x4096 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨3, ![16, 16, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1x4096x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![32, 16, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S512x16384 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S1x16384x256 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S512x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S512x256 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]

abbrev grid13 : Pipeline.Grid := ⟨1, ![32], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x4096 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x4096 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x4096 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]
-- ==== Reference2Ideal.lean ====
abbrev S2x8192x4096 : Shape := ⟨3, ![2, 8192, 4096]⟩
abbrev S16384x1024 : Shape := ⟨2, ![16384, 1024]⟩
abbrev S16384x3072 : Shape := ⟨2, ![16384, 3072]⟩
abbrev S16384x15360 : Shape := ⟨2, ![16384, 15360]⟩
abbrev S2x256x4096 : Shape := ⟨3, ![2, 256, 4096]⟩
abbrev S2x4x4096 : Shape := ⟨3, ![2, 4, 4096]⟩
abbrev S4096 : Shape := ⟨1, ![4096]⟩
abbrev S2x1024 : Shape := ⟨2, ![2, 1024]⟩
abbrev S2x3x1024x4096 : Shape := ⟨4, ![2, 3, 1024, 4096]⟩
abbrev S2x4096x4096 : Shape := ⟨3, ![2, 4096, 4096]⟩
abbrev S2x4096x8192 : Shape := ⟨3, ![2, 4096, 8192]⟩
abbrev S2x4096x16384 : Shape := ⟨3, ![2, 4096, 16384]⟩
abbrev S2x16384x4096 : Shape := ⟨3, ![2, 16384, 4096]⟩
abbrev S2x8192x1024 : Shape := ⟨3, ![2, 8192, 1024]⟩
abbrev S16384x12288 : Shape := ⟨2, ![16384, 12288]⟩
abbrev S2x8192x12288 : Shape := ⟨3, ![2, 8192, 12288]⟩
abbrev S2x8192x4x256 : Shape := ⟨4, ![2, 8192, 4, 256]⟩
abbrev S1x1024 : Shape := ⟨2, ![1, 1024]⟩
abbrev S1024 : Shape := ⟨1, ![1024]⟩
abbrev S4x256 : Shape := ⟨2, ![4, 256]⟩
abbrev S_ : Shape := ⟨0, ![]⟩
abbrev S2x8192x4 : Shape := ⟨3, ![2, 8192, 4]⟩
abbrev S2x8192x4x1 : Shape := ⟨4, ![2, 8192, 4, 1]⟩
abbrev S1x1x4x256 : Shape := ⟨4, ![1, 1, 4, 256]⟩
abbrev S1x4x4096 : Shape := ⟨3, ![1, 4, 4096]⟩
abbrev S4x4096 : Shape := ⟨2, ![4, 4096]⟩
abbrev S1x3x1024x4096 : Shape := ⟨4, ![1, 3, 1024, 4096]⟩
abbrev S3x1024x4096 : Shape := ⟨3, ![3, 1024, 4096]⟩
abbrev S1x4096x4096 : Shape := ⟨3, ![1, 4096, 4096]⟩
abbrev S4096x4096 : Shape := ⟨2, ![4096, 4096]⟩
abbrev S2x8192x1x1024 : Shape := ⟨4, ![2, 8192, 1, 1024]⟩
abbrev S2x8192x3x1024 : Shape := ⟨4, ![2, 8192, 3, 1024]⟩
abbrev S3x4096x2x8192 : Shape := ⟨4, ![3, 4096, 2, 8192]⟩
abbrev S2x8192x3x4096 : Shape := ⟨4, ![2, 8192, 3, 4096]⟩
abbrev S1x4096 : Shape := ⟨2, ![1, 4096]⟩
abbrev S2x8192 : Shape := ⟨2, ![2, 8192]⟩
abbrev S2x8192x1 : Shape := ⟨3, ![2, 8192, 1]⟩
abbrev S1x1x4096 : Shape := ⟨3, ![1, 1, 4096]⟩
abbrev S2x256 : Shape := ⟨2, ![2, 256]⟩
abbrev S2x256x1 : Shape := ⟨3, ![2, 256, 1]⟩
abbrev S1x4096x8192 : Shape := ⟨3, ![1, 4096, 8192]⟩
abbrev S4096x8192 : Shape := ⟨2, ![4096, 8192]⟩
abbrev S2x8192x4x1024 : Shape := ⟨4, ![2, 8192, 4, 1024]⟩
abbrev S2x256x8192 : Shape := ⟨3, ![2, 256, 8192]⟩
abbrev S2x256x4x1024 : Shape := ⟨4, ![2, 256, 4, 1024]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x1024x8192 : Shape := ⟨4, ![2, 4, 1024, 8192]⟩
abbrev S1x4096x16384 : Shape := ⟨3, ![1, 4096, 16384]⟩
abbrev S4096x16384 : Shape := ⟨2, ![4096, 16384]⟩
abbrev S1x16384x4096 : Shape := ⟨3, ![1, 16384, 4096]⟩
abbrev S16384x4096 : Shape := ⟨2, ![16384, 4096]⟩
abbrev S2x8192x16384 : Shape := ⟨3, ![2, 8192, 16384]⟩

abbrev nBuf : Space → Nat
  | .hbm => 238
  | .vmem => 0
  | .smem => 0
  | _ => 0

abbrev hbmTy0_0 (i : Nat) : BufTy := match i % 128 with
  | 0 => ⟨S2x8192x4096, .f32⟩
  | 1 => ⟨S16384x1024, .f32⟩
  | 2 => ⟨S16384x1024, .f32⟩
  | 3 => ⟨S16384x1024, .f32⟩
  | 4 => ⟨S16384x1024, .f32⟩
  | 5 => ⟨S16384x1024, .bf16⟩
  | 6 => ⟨S16384x3072, .bf16⟩
  | 7 => ⟨S16384x3072, .bf16⟩
  | 8 => ⟨S16384x15360, .bf16⟩
  | 9 => ⟨S2x256x4096, .f32⟩
  | 10 => ⟨S2x4x4096, .f32⟩
  | 11 => ⟨S4096, .f32⟩
  | 12 => ⟨S2x1024, .f32⟩
  | 13 => ⟨S2x1024, .f32⟩
  | 14 => ⟨S2x3x1024x4096, .f32⟩
  | 15 => ⟨S2x4096x4096, .f32⟩
  | 16 => ⟨S2x4096x4096, .f32⟩
  | 17 => ⟨S2x4096x8192, .f32⟩
  | 18 => ⟨S2x4096x4096, .f32⟩
  | 19 => ⟨S2x4096x16384, .f32⟩
  | 20 => ⟨S2x16384x4096, .f32⟩
  | 21 => ⟨S16384x1024, .bf16⟩
  | 22 => ⟨S16384x1024, .f32⟩
  | 23 => ⟨S2x8192x1024, .f32⟩
  | 24 => ⟨S16384x1024, .bf16⟩
  | 25 => ⟨S16384x1024, .f32⟩
  | 26 => ⟨S2x8192x1024, .f32⟩
  | 27 => ⟨S16384x12288, .bf16⟩
  | 28 => ⟨S16384x12288, .f32⟩
  | 29 => ⟨S2x8192x12288, .f32⟩
  | 30 => ⟨S16384x1024, .f32⟩
  | 31 => ⟨S2x8192x4x256, .f32⟩
  | 32 => ⟨S16384x1024, .f32⟩
  | 33 => ⟨S2x8192x4x256, .f32⟩
  | 34 => ⟨S1x1024, .f32⟩
  | 35 => ⟨S1024, .f32⟩
  | 36 => ⟨S4x256, .f32⟩
  | 37 => ⟨S2x8192x4x256, .f32⟩
  | 38 => ⟨S_, .f32⟩
  | 39 => ⟨S2x8192x4, .f32⟩
  | 40 => ⟨S2x8192x4x1, .f32⟩
  | 41 => ⟨S_, .f32⟩
  | 42 => ⟨S2x8192x4x1, .f32⟩
  | 43 => ⟨S2x8192x4x1, .f32⟩
  | 44 => ⟨S_, .f32⟩
  | 45 => ⟨S2x8192x4x1, .f32⟩
  | 46 => ⟨S2x8192x4x1, .f32⟩
  | 47 => ⟨S2x8192x4x1, .f32⟩
  | 48 => ⟨S2x8192x4x256, .f32⟩
  | 49 => ⟨S2x8192x4x256, .f32⟩
  | 50 => ⟨S1x1x4x256, .f32⟩
  | 51 => ⟨S2x8192x4x256, .f32⟩
  | 52 => ⟨S2x8192x4x256, .f32⟩
  | 53 => ⟨S2x8192x1024, .f32⟩
  | 54 => ⟨S2x8192x1024, .f32⟩
  | 55 => ⟨S2x8192x1024, .f32⟩
  | 56 => ⟨S_, .f32⟩
  | 57 => ⟨S2x8192x1024, .f32⟩
  | 58 => ⟨S2x8192x1024, .f32⟩
  | 59 => ⟨S_, .f32⟩
  | 60 => ⟨S2x8192x1024, .f32⟩
  | 61 => ⟨S2x8192x1024, .f32⟩
  | 62 => ⟨S2x8192x1024, .f32⟩
  | 63 => ⟨S1x1024, .f32⟩
  | 64 => ⟨S1024, .f32⟩
  | 65 => ⟨S4x256, .f32⟩
  | 66 => ⟨S2x8192x4x256, .f32⟩
  | 67 => ⟨S_, .f32⟩
  | 68 => ⟨S2x8192x4, .f32⟩
  | 69 => ⟨S2x8192x4x1, .f32⟩
  | 70 => ⟨S_, .f32⟩
  | 71 => ⟨S2x8192x4x1, .f32⟩
  | 72 => ⟨S2x8192x4x1, .f32⟩
  | 73 => ⟨S_, .f32⟩
  | 74 => ⟨S2x8192x4x1, .f32⟩
  | 75 => ⟨S2x8192x4x1, .f32⟩
  | 76 => ⟨S2x8192x4x1, .f32⟩
  | 77 => ⟨S2x8192x4x256, .f32⟩
  | 78 => ⟨S2x8192x4x256, .f32⟩
  | 79 => ⟨S1x1x4x256, .f32⟩
  | 80 => ⟨S2x8192x4x256, .f32⟩
  | 81 => ⟨S2x8192x4x256, .f32⟩
  | 82 => ⟨S2x8192x1024, .f32⟩
  | 83 => ⟨S2x8192x1024, .f32⟩
  | 84 => ⟨S2x8192x1024, .f32⟩
  | 85 => ⟨S_, .f32⟩
  | 86 => ⟨S2x8192x1024, .f32⟩
  | 87 => ⟨S2x8192x1024, .f32⟩
  | 88 => ⟨S_, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x4x4096, .f32⟩
  | 94 => ⟨S4x4096, .f32⟩
  | 95 => ⟨S16384x1024, .f32⟩
  | 96 => ⟨S2x8192x1024, .f32⟩
  | 97 => ⟨S1x3x1024x4096, .f32⟩
  | 98 => ⟨S3x1024x4096, .f32⟩
  | 99 => ⟨S1x4096x4096, .f32⟩
  | 100 => ⟨S4096x4096, .f32⟩
  | 101 => ⟨S2x8192x1x1024, .f32⟩
  | 102 => ⟨S2x8192x1x1024, .f32⟩
  | 103 => ⟨S2x8192x1x1024, .f32⟩
  | 104 => ⟨S2x8192x3x1024, .f32⟩
  | 105 => ⟨S3x4096x2x8192, .f32⟩
  | 106 => ⟨S2x8192x3x4096, .f32⟩
  | 107 => ⟨S2x8192x3x4096, .f32⟩
  | 108 => ⟨S2x8192x3x4096, .f32⟩
  | 109 => ⟨S2x8192x3x4096, .f32⟩
  | 110 => ⟨S_, .f32⟩
  | 111 => ⟨S2x8192x3x4096, .f32⟩
  | 112 => ⟨S2x8192x3x4096, .f32⟩
  | 113 => ⟨S_, .f32⟩
  | 114 => ⟨S2x8192x3x4096, .f32⟩
  | 115 => ⟨S2x8192x3x4096, .f32⟩
  | 116 => ⟨S2x8192x3x4096, .f32⟩
  | 117 => ⟨S_, .f32⟩
  | 118 => ⟨S2x8192x4096, .f32⟩
  | 119 => ⟨S2x8192x4096, .f32⟩
  | 120 => ⟨S2x8192x4096, .f32⟩
  | 121 => ⟨S1x4096, .f32⟩
  | 122 => ⟨S4096, .f32⟩
  | 123 => ⟨S2x8192x4096, .f32⟩
  | 124 => ⟨S_, .f32⟩
  | 125 => ⟨S2x8192, .f32⟩
  | 126 => ⟨S2x8192x1, .f32⟩
  | 127 => ⟨S_, .f32⟩
  | _ => ⟨S2x8192x4096, .f32⟩

abbrev hbmTy0_1 (i : Nat) : BufTy := match i % 128 with
  | 0 => ⟨S2x8192x1, .f32⟩
  | 1 => ⟨S2x8192x1, .f32⟩
  | 2 => ⟨S_, .f32⟩
  | 3 => ⟨S2x8192x1, .f32⟩
  | 4 => ⟨S2x8192x1, .f32⟩
  | 5 => ⟨S2x8192x1, .f32⟩
  | 6 => ⟨S2x8192x4096, .f32⟩
  | 7 => ⟨S2x8192x4096, .f32⟩
  | 8 => ⟨S1x1x4096, .f32⟩
  | 9 => ⟨S2x8192x4096, .f32⟩
  | 10 => ⟨S2x8192x4096, .f32⟩
  | 11 => ⟨S1x4096, .f32⟩
  | 12 => ⟨S4096, .f32⟩
  | 13 => ⟨S2x256x4096, .f32⟩
  | 14 => ⟨S_, .f32⟩
  | 15 => ⟨S2x256, .f32⟩
  | 16 => ⟨S2x256x1, .f32⟩
  | 17 => ⟨S_, .f32⟩
  | 18 => ⟨S2x256x1, .f32⟩
  | 19 => ⟨S2x256x1, .f32⟩
  | 20 => ⟨S_, .f32⟩
  | 21 => ⟨S2x256x1, .f32⟩
  | 22 => ⟨S2x256x1, .f32⟩
  | 23 => ⟨S2x256x1, .f32⟩
  | 24 => ⟨S2x256x4096, .f32⟩
  | 25 => ⟨S2x256x4096, .f32⟩
  | 26 => ⟨S1x1x4096, .f32⟩
  | 27 => ⟨S2x256x4096, .f32⟩
  | 28 => ⟨S2x256x4096, .f32⟩
  | 29 => ⟨S1x4096x4096, .f32⟩
  | 30 => ⟨S4096x4096, .f32⟩
  | 31 => ⟨S1x4096x8192, .f32⟩
  | 32 => ⟨S4096x8192, .f32⟩
  | 33 => ⟨S1x4096x4096, .f32⟩
  | 34 => ⟨S4096x4096, .f32⟩
  | 35 => ⟨S2x8192x4096, .f32⟩
  | 36 => ⟨S2x8192x4x1024, .f32⟩
  | 37 => ⟨S2x256x8192, .f32⟩
  | 38 => ⟨S2x256x4096, .f32⟩
  | 39 => ⟨S2x256x4096, .f32⟩
  | 40 => ⟨S2x256x4x1024, .f32⟩
  | 41 => ⟨S2x256x4x1024, .f32⟩
  | 42 => ⟨S2x4x8192x256, .f32⟩
  | 43 => ⟨S_, .f32⟩
  | 44 => ⟨S2x4x8192x256, .f32⟩
  | 45 => ⟨S2x4x8192x256, .f32⟩
  | 46 => ⟨S_, .f32⟩
  | 47 => ⟨S2x4x8192, .f32⟩
  | 48 => ⟨S_, .f32⟩
  | 49 => ⟨S2x4x8192, .f32⟩
  | 50 => ⟨S2x4x8192, .f32⟩
  | 51 => ⟨S2x4x8192x1, .f32⟩
  | 52 => ⟨S2x4x8192x256, .f32⟩
  | 53 => ⟨S2x4x8192x256, .f32⟩
  | 54 => ⟨S2x4x8192x256, .f32⟩
  | 55 => ⟨S_, .f32⟩
  | 56 => ⟨S2x4x8192, .f32⟩
  | 57 => ⟨S2x4x8192x1, .f32⟩
  | 58 => ⟨S2x4x8192x256, .f32⟩
  | 59 => ⟨S2x4x8192x256, .f32⟩
  | 60 => ⟨S2x4x1024x8192, .f32⟩
  | 61 => ⟨S2x8192x4x1024, .f32⟩
  | 62 => ⟨S2x8192x4096, .f32⟩
  | 63 => ⟨S2x8192x4096, .f32⟩
  | 64 => ⟨S2x8192x4096, .f32⟩
  | 65 => ⟨S1x4096, .f32⟩
  | 66 => ⟨S4096, .f32⟩
  | 67 => ⟨S2x8192x4096, .f32⟩
  | 68 => ⟨S_, .f32⟩
  | 69 => ⟨S2x8192, .f32⟩
  | 70 => ⟨S2x8192x1, .f32⟩
  | 71 => ⟨S_, .f32⟩
  | 72 => ⟨S2x8192x1, .f32⟩
  | 73 => ⟨S2x8192x1, .f32⟩
  | 74 => ⟨S_, .f32⟩
  | 75 => ⟨S2x8192x1, .f32⟩
  | 76 => ⟨S2x8192x1, .f32⟩
  | 77 => ⟨S2x8192x1, .f32⟩
  | 78 => ⟨S2x8192x4096, .f32⟩
  | 79 => ⟨S2x8192x4096, .f32⟩
  | 80 => ⟨S1x1x4096, .f32⟩
  | 81 => ⟨S2x8192x4096, .f32⟩
  | 82 => ⟨S2x8192x4096, .f32⟩
  | 83 => ⟨S1x4096x16384, .f32⟩
  | 84 => ⟨S4096x16384, .f32⟩
  | 85 => ⟨S1x16384x4096, .f32⟩
  | 86 => ⟨S16384x4096, .f32⟩
  | 87 => ⟨S2x8192x16384, .f32⟩
  | 88 => ⟨S_, .f32⟩
  | 89 => ⟨S2x8192x16384, .f32⟩
  | 90 => ⟨S2x8192x16384, .f32⟩
  | 91 => ⟨S2x8192x16384, .f32⟩
  | 92 => ⟨S2x8192x4096, .f32⟩
  | 93 => ⟨S2x8192x4096, .f32⟩
  | 94 => ⟨S2x8192x4096, .f32⟩
  | 95 => ⟨S_, .f32⟩
  | 96 => ⟨S2x8192, .f32⟩
  | 97 => ⟨S2x8192x1, .f32⟩
  | 98 => ⟨S_, .f32⟩
  | 99 => ⟨S2x8192x1, .f32⟩
  | 100 => ⟨S2x8192x1, .f32⟩
  | 101 => ⟨S_, .f32⟩
  | 102 => ⟨S2x8192x1, .f32⟩
  | 103 => ⟨S2x8192x1, .f32⟩
  | 104 => ⟨S2x8192x1, .f32⟩
  | 105 => ⟨S2x8192x4096, .f32⟩
  | 106 => ⟨S2x8192x4096, .f32⟩
  | 107 => ⟨S1x1x4096, .f32⟩
  | 108 => ⟨S2x8192x4096, .f32⟩
  | 109 => ⟨S2x8192x4096, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_7 : Ref sig .tc := ⟨.hbm, 110, rfl⟩
abbrev main_v73 : Ref sig .tc := ⟨.hbm, 111, rfl⟩
abbrev main_v74 : Ref sig .tc := ⟨.hbm, 112, rfl⟩
abbrev main_cst_8 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_9 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_10 : Ref sig .tc := ⟨.hbm, 124, rfl⟩
abbrev main_v84 : Ref sig .tc := ⟨.hbm, 125, rfl⟩
abbrev main_v85 : Ref sig .tc := ⟨.hbm, 126, rfl⟩
abbrev main_cst_11 : Ref sig .tc := ⟨.hbm, 127, rfl⟩
abbrev main_v86 : Ref sig .tc := ⟨.hbm, 128, rfl⟩
abbrev main_v87 : Ref sig .tc := ⟨.hbm, 129, rfl⟩
abbrev main_cst_12 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_13 : Ref sig .tc := ⟨.hbm, 142, rfl⟩
abbrev main_v99 : Ref sig .tc := ⟨.hbm, 143, rfl⟩
abbrev main_v100 : Ref sig .tc := ⟨.hbm, 144, rfl⟩
abbrev main_cst_14 : Ref sig .tc := ⟨.hbm, 145, rfl⟩
abbrev main_v101 : Ref sig .tc := ⟨.hbm, 146, rfl⟩
abbrev main_v102 : Ref sig .tc := ⟨.hbm, 147, rfl⟩
abbrev main_cst_15 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_16 : Ref sig .tc := ⟨.hbm, 171, rfl⟩
abbrev main_v125 : Ref sig .tc := ⟨.hbm, 172, rfl⟩
abbrev main_v126 : Ref sig .tc := ⟨.hbm, 173, rfl⟩
abbrev main_cst_17 : Ref sig .tc := ⟨.hbm, 174, rfl⟩
abbrev main_v127 : Ref sig .tc := ⟨.hbm, 175, rfl⟩
abbrev main_cst_18 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_19 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_20 : Ref sig .tc := ⟨.hbm, 196, rfl⟩
abbrev main_v146 : Ref sig .tc := ⟨.hbm, 197, rfl⟩
abbrev main_v147 : Ref sig .tc := ⟨.hbm, 198, rfl⟩
abbrev main_cst_21 : Ref sig .tc := ⟨.hbm, 199, rfl⟩
abbrev main_v148 : Ref sig .tc := ⟨.hbm, 200, rfl⟩
abbrev main_v149 : Ref sig .tc := ⟨.hbm, 201, rfl⟩
abbrev main_cst_22 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_call1_cst : Ref sig .tc := ⟨.hbm, 216, rfl⟩
abbrev main_call1_v0 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_23 : Ref sig .tc := ⟨.hbm, 223, rfl⟩
abbrev main_v168 : Ref sig .tc := ⟨.hbm, 224, rfl⟩
abbrev main_v169 : Ref sig .tc := ⟨.hbm, 225, rfl⟩
abbrev main_cst_24 : Ref sig .tc := ⟨.hbm, 226, rfl⟩
abbrev main_v170 : Ref sig .tc := ⟨.hbm, 227, rfl⟩
abbrev main_v171 : Ref sig .tc := ⟨.hbm, 228, rfl⟩
abbrev main_cst_25 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩

abbrev nD : Nat := 1
abbrev τ : Topo := Topo.v7x

variable {F : FTy → Type} [FloatOps F]
-- ==== Kernel3.lean ====
abbrev S16384x3072 : Shape := ⟨2, ![16384, 3072]⟩
abbrev S16384x48 : Shape := ⟨2, ![16384, 48]⟩
abbrev S16384x16 : Shape := ⟨2, ![16384, 16]⟩
abbrev S2x64x128x2x2x4 : Shape := ⟨6, ![2, 64, 128, 2, 2, 4]⟩
abbrev S2x2x64x4x2x128 : Shape := ⟨6, ![2, 2, 64, 4, 2, 128]⟩
abbrev S2x2x64x8x128 : Shape := ⟨5, ![2, 2, 64, 8, 128]⟩
abbrev S16384x1024 : Shape := ⟨2, ![16384, 1024]⟩
abbrev S128x512 : Shape := ⟨2, ![128, 512]⟩
abbrev S128x1024 : Shape := ⟨2, ![128, 1024]⟩
abbrev S1x2x64x8x128 : Shape := ⟨5, ![1, 2, 64, 8, 128]⟩
abbrev S2x4x128x384 : Shape := ⟨4, ![2, 4, 128, 384]⟩
abbrev S2x4x1x1 : Shape := ⟨4, ![2, 4, 1, 1]⟩
abbrev S128x128 : Shape := ⟨2, ![128, 128]⟩
abbrev S1x1x1x8x128 : Shape := ⟨5, ![1, 1, 1, 8, 128]⟩
abbrev S8x128 : Shape := ⟨2, ![8, 128]⟩
abbrev S128x8 : Shape := ⟨2, ![128, 8]⟩
abbrev S8 : Shape := ⟨1, ![8]⟩
abbrev S8x1 : Shape := ⟨2, ![8, 1]⟩
abbrev S1x128 : Shape := ⟨2, ![1, 128]⟩
abbrev S1x1 : Shape := ⟨2, ![1, 1]⟩
abbrev S1x1x1x1 : Shape := ⟨4, ![1, 1, 1, 1]⟩
abbrev S1 : Shape := ⟨1, ![1]⟩
abbrev S4x128 : Shape := ⟨2, ![4, 128]⟩
abbrev S128x256 : Shape := ⟨2, ![128, 256]⟩
abbrev S128x384 : Shape := ⟨2, ![128, 384]⟩
abbrev S1x1x128x384 : Shape := ⟨4, ![1, 1, 128, 384]⟩
abbrev S128x1 : Shape := ⟨2, ![128, 1]⟩
abbrev S128 : Shape := ⟨1, ![128]⟩

abbrev nBuf : Space → Nat
  | .hbm => 8
  | .vmem => 20
  | .smem => 0
  | _ => 0

abbrev bufTy : (tb : Table) → Fin (tcTables nBuf tb) → BufTy
  | .hbm, ⟨0, _⟩ => ⟨S16384x3072, .bf16⟩
  | .hbm, ⟨1, _⟩ => ⟨S16384x48, .f32⟩
  | .hbm, ⟨2, _⟩ => ⟨S16384x16, .f32⟩
  | .hbm, ⟨3, _⟩ => ⟨S2x64x128x2x2x4, .f32⟩
  | .hbm, ⟨4, _⟩ => ⟨S2x2x64x4x2x128, .f32⟩
  | .hbm, ⟨5, _⟩ => ⟨S2x2x64x8x128, .f32⟩
  | .hbm, ⟨6, _⟩ => ⟨S16384x1024, .f32⟩
  | .hbm, ⟨7, _⟩ => ⟨S16384x1024, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x2x64x8x128, .f32⟩
  | .local _ .vmem, ⟨13, _⟩ => ⟨S1x2x64x8x128, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S2x4x128x384, .f32⟩
  | .local _ .vmem, ⟨19, _⟩ => ⟨S2x4x1x1, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

def k0_off1 (i : grid0.Coords) : Fin 5 → Nat :=
  let c0 : Index := 0#32
  let c0_7 : Index := 0#32
  let arg1 : BitVec 32 := BitVec.ofNat 32 (i 1).val
  let v26 : Index := Scalar.indexCast arg1
  let c0_8 : Index := 0#32
  let c0_9 : Index := 0#32
  ![0, 0, v26.toNat, 0, 0]
def k0_off2 (i : grid0.Coords) : Fin 5 → Nat :=
  let c0_10 : Index := 0#32
  let c1 : Index := 1#32
  let c63_i32 : BitVec 32 := 63#32
  let arg1 : BitVec 32 := BitVec.ofNat 32 (i 1).val
  let v29 : BitVec 32 := Scalar.subi c63_i32 arg1
  let v30 : Index := Scalar.indexCast v29
  let c0_11 : Index := 0#32
  let c0_12 : Index := 0#32
  ![0, 1, v30.toNat, 0, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x64x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "mask" => some ⊥
  | _ => none
-- ==== Proof.Calls.lean ====
module

public import proofs.«01_k».proof.Proof.Gen.KernelIdeal.Frame
public import Idealize.ShloMosaic.Lib.Pipeline.Value
public import Idealize.ShloMosaic.Lib.StableHlo.Run
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

theorem ix0_0 : ∀ t : Fin cfg0.N, win0_0.index t 0 = t.val ∧ win0_0.index t 1 = 0 :=
  (by decide +kernel : ∀ t : Fin grid0.N, win0_0.index t 0 = t.val ∧ win0_0.index t 1 = 0)

theorem ix0_1 : ∀ t : Fin cfg0.N, win0_1.index t 0 = 0 ∧ win0_1.index t 1 = 0 :=
  (by decide +kernel : ∀ t : Fin grid0.N, win0_1.index t 0 = 0 ∧ win0_1.index t 1 = 0)

theorem ix0_2 : ∀ t : Fin cfg0.N, win0_2.index t 0 = t.val ∧ win0_2.index t 1 = 0 :=
  (by decide +kernel : ∀ t : Fin grid0.N, win0_2.index t 0 = t.val ∧ win0_2.index t 1 = 0)

theorem blk0_0 (V : (c : Dev nD) → (b : Ref sig .tc) → Buf (Elt Ideal) ((c : Thread nD τ).loc b)) (c : Dev nD) (t : Fin cfg0.N) (a : Fin 512) (b : Fin 4096) :
    iblk0 V c 0 t (ix2 a b) = V c main_v17 (ix2 (⟨t.val * 512 + a.val, by have h : t.val < 32 := t.isLt; omega⟩ : Fin 16384) (b : Fin 4096)) := by
  have hi := ix0_0 t
  unfold iblk0
  rw [View.read_apply]
  refine congrArg (V c main_v17) (Shape.idx_ext₂ ?_ ?_)
  · show win0_0.index t 0 * 512 + 1 * a.val = _; rw [hi.1]; simp <;> omega
  · show win0_0.index t 1 * 4096 + 1 * b.val = _; rw [hi.2]; simp <;> omega

theorem blk0_1 (V : (c : Dev nD) → (b : Ref sig .tc) → Buf (Elt Ideal) ((c : Thread nD τ).loc b)) (c : Dev nD) (t : Fin cfg0.N) (b : Fin 4096) :
    iblk0 V c 1 t (ix2 0 b) = V c main_v22 (ix2 ((0 : Fin 1) : Fin 1) (b : Fin 4096)) := by
  have hi := ix0_1 t
  unfold iblk0
  rw [View.read_apply]
  refine congrArg (V c main_v22) (Shape.idx_ext₂ ?_ ?_)
  · show win0_1.index t 0 * 1 + 1 * 0 = _; rw [hi.1]; simp <;> omega
  · show win0_1.index t 1 * 4096 + 1 * b.val = _; rw [hi.2]; simp <;> omega

/-- What call 0 leaves in its result, from its operands. -/
def G0 (x0 : S16384x4096.Idx → EReal) (x1 : S1x4096.Idx → EReal) : S16384x4096.Idx → EReal := fun i =>
  have r : Fin 16384 := i 0
  have j : Fin 4096 := i 1
  x0 (ix2 r j) * Ideal.rsqrt (Ideal.div (∑ k : Fin 4096, x0 (ix2 r k) * x0 (ix2 r k)) (Ideal.ofBits .f32 0x45800000#32) + Ideal.ofBits .f32 0x358637BD#32) * x1 (ix2 0 j)

theorem flushed0 (V : (c : Dev nD) → (b : Ref sig .tc) → Buf (Elt Ideal) ((c : Thread nD τ).loc b)) (c : Dev nD) (t : Fin cfg0.N) :
    (dat0 V c).flushed 2 t = ((cfg0.win 2).blk t).view.read (Elt Ideal) (G0 (V c main_v17) (V c main_v22)) := by
  show (cfg0.win 2).cut (cfg0.grid.coords t) ((dat0 V c).after 2 t) = _
  rw [after0_2]
  unfold out0_2
  rw [View.canon_unit_zero hz2]
  simp only [View.ld_unit_zero (S := S512x4096) hz2, View.ld_unit_zero (S := S1x4096) hz2]
  funext y
  rw [View.read_apply]
  obtain ⟨a, b, rfl⟩ : ∃ (a : Fin 512) (b : Fin 4096), y = ix2 a b := ⟨y 0, y 1, eq_ix2 y⟩
  have hi := ix0_2 t
  have hN : t.val < 32 := t.isLt
  have e : ((View.whole main_v23).slice ((win0 2).rect t)).emb (ix2 a b)
      = (ix2 (⟨t.val * 512 + a.val, by omega⟩ : Fin 16384) (b : Fin 4096) : S16384x4096.Idx) := by
    refine Shape.idx_ext₂ ?_ ?_
    · show win0_2.index t 0 * 512 + 1 * a.val = _; rw [hi.1]; simp
    · show win0_2.index t 1 * 4096 + 1 * b.val = _; rw [hi.2]; simp
  rw [e]
  show (k0_pay1 (F := Ideal) _ _ (ix2 a b) : EReal) = G0 _ _ _
  pointwise [k0_pay1]
  simp only [blk0_0, blk0_1]
  rfl

theorem final0 (V : (c : Dev nD) → (b : Ref sig .tc) → Buf (Elt Ideal) ((c : Thread nD τ).loc b)) (c : Dev nD) :
    (dat0 V c).arrAt 2 cfg0.N = G0 (V c main_v17) (V c main_v22) :=
  (dat0 V c).arrAt_eq_of_cover 2 _ (fun t _ => flushed0 V c t) fun i => by
    have h0 : (i 0 : Nat) < 16384 := (i 0).isLt
    have h1 : (i 1 : Nat) < 4096 := (i 1).isLt
    obtain ⟨t, ht⟩ : ∃ t : Fin cfg0.N, t.val = (i 0 : Nat) / 512 := ⟨⟨(i 0 : Nat) / 512, by show _ < 32; omega⟩, rfl⟩
    have hi := ix0_2 t
    refine ⟨t, flush0_2 t, ?_⟩
    show i ∈ ((View.whole main_v23).slice (win0_2.rect t)).set
    rw [View.set_slice_whole, Rect.mem_set_unit]
    intro x
    match x with
    | ⟨0, _⟩ => show win0_2.index t 0 * 512 ≤ (i 0 : Nat) ∧ (i 0 : Nat) < win0_2.index t 0 * 512 + 512; rw [hi.1]; omega
    | ⟨1, _⟩ => show win0_2.index t 1 * 4096 ≤ (i 1 : Nat) ∧ (i 1 : Nat) < win0_2.index t 1 * 4096 + 4096; rw [hi.2]; omega
theorem ix1_0 : ∀ t : Fin cfg1.N, win1_0.index t 0 = t.val / 3 ∧ win1_0.index t 1 = 0 :=
  (by decide +kernel : ∀ t : Fin grid1.N, win1_0.index t 0 = t.val / 3 ∧ win1_0.index t 1 = 0)

theorem ix1_1 : ∀ t : Fin cfg1.N, win1_1.index t 0 = 0 ∧ win1_1.index t 1 = 1024 * (t.val % 3) ∧ win1_1.index t 2 = 0 :=
  (by decide +kernel : ∀ t : Fin grid1.N, win1_1.index t 0 = 0 ∧ win1_1.index t 1 = 1024 * (t.val % 3) ∧ win1_1.index t 2 = 0)

theorem ix1_2 : ∀ t : Fin cfg1.N, win1_2.index t 0 = 0 ∧ win1_2.index t 1 = 0 ∧ win1_2.index t 2 = t.val % 3 :=
  (by decide +kernel : ∀ t : Fin grid1.N, win1_2.index t 0 = 0 ∧ win1_2.index t 1 = 0 ∧ win1_2.index t 2 = t.val % 3)

theorem ix1_3 : ∀ t : Fin cfg1.N, win1_3.index t 0 = t.val / 3 ∧ win1_3.index t 1 = t.val % 3 :=
  (by decide +kernel : ∀ t : Fin grid1.N, win1_3.index t 0 = t.val / 3 ∧ win1_3.index t 1 = t.val % 3)

theorem blk1_0 (V : (c : Dev nD) → (b : Ref sig .tc) → Buf (Elt Ideal) ((c : Thread nD τ).loc b)) (c : Dev nD) (t : Fin cfg1.N) (a : Fin 1024) (b : Fin 4096) :
    iblk1 V c 0 t (ix2 a b) = V c main_v23 (ix2 (⟨t.val / 3 * 1024 + a.val, by have h : t.val < 48 := t.isLt; omega⟩ : Fin 16384) (b : Fin 4096)) := by
  have hi := ix1_0 t
  unfold iblk1
  rw [View.read_apply]
  refine congrArg (V c main_v23) (Shape.idx_ext₂ ?_ ?_)
  · show win1_0.index t 0 * 1024 + 1 * a.val = _; rw [hi.1]; simp <;> omega
  · show win1_0.index t 1 * 4096 + 1 * b.val = _; rw [hi.2]; simp <;> omega

theorem blk1_1 (V : (c : Dev nD) → (b : Ref sig .tc) → Buf (Elt Ideal) ((c : Thread nD τ).loc b)) (c : Dev nD) (t : Fin cfg1.N) (b : Fin 1024) (d : Fin 4096) :
    iblk1 V c 1 t (ix3 0 b d) = V c main_v1 (ix3 ((0 : Fin 2) : Fin 2) (⟨t.val % 3 * 1024 + b.val, by have h : t.val < 48 := t.isLt; omega⟩ : Fin 21552) (d : Fin 4096)) := by
  have hi := ix1_1 t
  unfold iblk1
  rw [View.read_apply]
  refine congrArg (V c main_v1) (funext fun x => Fin.ext ?_)
  match x with
  | ⟨0, _⟩ => show win1_1.index t 0 + 1 * 0 = _; rw [hi.1]; simp <;> omega
  | ⟨1, _⟩ => show win1_1.index t 1 + 1 * b.val = _; rw [hi.2.1]; simp <;> omega
  | ⟨2, _⟩ => show win1_1.index t 2 + 1 * d.val = _; rw [hi.2.2]; simp <;> omega

theorem blk1_2 (V : (c : Dev nD) → (b : Ref sig .tc) → Buf (Elt Ideal) ((c : Thread nD τ).loc b)) (c : Dev nD) (t : Fin cfg1.N) (d : Fin 1024) :
    iblk1 V c 2 t (ix3 0 0 d) = V c main_v3 (ix3 ((0 : Fin 2) : Fin 2) ((0 : Fin 1) : Fin 1) (⟨t.val % 3 * 1024 + d.val, by have h : t.val < 48 := t.isLt; omega⟩ : Fin 3072)) := by
  have hi := ix1_2 t
  unfold iblk1
  rw [View.read_apply]
  refine congrArg (V c main_v3) (funext fun x => Fin.ext ?_)
  match x with
  | ⟨0, _⟩ => show win1_2.index t 0 * 1 + 1 * 0 = _; rw [hi.1]; simp <;> omega
  | ⟨1, _⟩ => show win1_2.index t 1 * 1 + 1 * 0 = _; rw [hi.2.1]; simp <;> omega
  | ⟨2, _⟩ => show win1_2.index t 2 * 1024 + 1 * d.val = _; rw [hi.2.2]; simp <;> omega

/-- What call 1 leaves in its result, from its operands. -/
def G1 (x0 : S16384x4096.Idx → EReal) (x1 : S2x21552x4096.Idx → EReal) (x2 : S2x1x3072.Idx → EReal) : S16384x3072.Idx → EReal := fun i =>
  have r : Fin 16384 := i 0
  have j : Fin 3072 := i 1
  (∑ k : Fin 4096, x0 (ix2 r k) * x1 (ix3 0 (⟨j.val, by omega⟩ : Fin 21552) k)) + x2 (ix3 0 0 j)

theorem flushed1 (V : (c : Dev nD) → (b : Ref sig .tc) → Buf (Elt Ideal) ((c : Thread nD τ).loc b)) (c : Dev nD) (t : Fin cfg1.N) :
    (dat1 V c).flushed 3 t = ((cfg1.win 3).blk t).view.read (Elt Ideal) (G1 (V c main_v23) (V c main_v1) (V c main_v3)) := by
  show (cfg1.win 3).cut (cfg1.grid.coords t) ((dat1 V c).after 3 t) = _
  rw [after1_3]
  unfold out1_3
  rw [View.canon_unit_zero hz2]
  simp only [View.ld_unit_zero (S := S1024x4096) hz2, View.ld_unit_zero (S := S1x1024x4096) hz3, View.ld_unit_zero (S := S1x1x1024) hz3]
  funext y
  rw [View.read_apply]
  obtain ⟨a, b, rfl⟩ : ∃ (a : Fin 1024) (b : Fin 1024), y = ix2 a b := ⟨y 0, y 1, eq_ix2 y⟩
  have hi := ix1_3 t
  have hN : t.val < 48 := t.isLt
  have e : ((View.whole main_v24).slice ((win1 3).rect t)).emb (ix2 a b)
      = (ix2 (⟨t.val / 3 * 1024 + a.val, by omega⟩ : Fin 16384) (⟨t.val % 3 * 1024 + b.val, by omega⟩ : Fin 3072) : S16384x3072.Idx) := by
    refine Shape.idx_ext₂ ?_ ?_
    · show win1_3.index t 0 * 1024 + 1 * a.val = _; rw [hi.1]; simp
    · show win1_3.index t 1 * 1024 + 1 * b.val = _; rw [hi.2]; simp
  rw [e]
  show (k1_pay1 (F := Ideal) _ _ _ (ix2 a b) : EReal) = G1 _ _ _ _
  pointwise [k1_pay1]
  simp only [blk1_0, blk1_1, blk1_2]
  rfl

theorem final1 (V : (c : Dev nD) → (b : Ref sig .tc) → Buf (Elt Ideal) ((c : Thread nD τ).loc b)) (c : Dev nD) :
    (dat1 V c).arrAt 3 cfg1.N = G1 (V c main_v23) (V c main_v1) (V c main_v3) :=
  (dat1 V c).arrAt_eq_of_cover 3 _ (fun t _ => flushed1 V c t) fun i => by
    have h0 : (i 0 : Nat) < 16384 := (i 0).isLt
    have h1 : (i 1 : Nat) < 3072 := (i 1).isLt
    obtain ⟨t, ht⟩ : ∃ t : Fin cfg1.N, t.val = (i 0 : Nat) / 1024 * 3 + (i 1 : Nat) / 1024 := ⟨⟨(i 0 : Nat) / 1024 * 3 + (i 1 : Nat) / 1024, by show _ < 48; omega⟩, rfl⟩
    have hi := ix1_3 t
    refine ⟨t, flush1_3 t, ?_⟩
    show i ∈ ((View.whole main_v24).slice (win1_3.rect t)).set
    rw [View.set_slice_whole, Rect.mem_set_unit]
    intro x
    match x with
    | ⟨0, _⟩ => show win1_3.index t 0 * 1024 ≤ (i 0 : Nat) ∧ (i 0 : Nat) < win1_3.index t 0 * 1024 + 1024; rw [hi.1]; omega
    | ⟨1, _⟩ => show win1_3.index t 1 * 1024 ≤ (i 1 : Nat) ∧ (i 1 : Nat) < win1_3.index t 1 * 1024 + 1024; rw [hi.2]; omega
theorem ix2_0 : ∀ t : Fin cfg2.N, win2_0.index t 0 = t.val / 3 ∧ win2_0.index t 1 = 0 :=
  (by decide +kernel : ∀ t : Fin grid2.N, win2_0.index t 0 = t.val / 3 ∧ win2_0.index t 1 = 0)

theorem ix2_1 : ∀ t : Fin cfg2.N, win2_1.index t 0 = 0 ∧ win2_1.index t 1 = 3088 + 1024 * (t.val % 3) ∧ win2_1.index t 2 = 0 :=
  (by decide +kernel : ∀ t : Fin grid2.N, win2_1.index t 0 = 0 ∧ win2_1.index t 1 = 3088 + 1024 * (t.val % 3) ∧ win2_1.index t 2 = 0)

theorem ix2_2 : ∀ t : Fin cfg2.N, win2_2.index t 0 = 0 ∧ win2_2.index t 1 = 0 ∧ win2_2.index t 2 = t.val % 3 :=
  (by decide +kernel : ∀ t : Fin grid2.N, win2_2.index t 0 = 0 ∧ win2_2.index t 1 = 0 ∧ win2_2.index t 2 = t.val % 3)

theorem ix2_3 : ∀ t : Fin cfg2.N, win2_3.index t 0 = t.val / 3 ∧ win2_3.index t 1 = t.val % 3 :=
  (by decide +kernel : ∀ t : Fin grid2.N, win2_3.index t 0 = t.val / 3 ∧ win2_3.index t 1 = t.val % 3)

theorem blk2_0 (V : (c : Dev nD) → (b : Ref sig .tc) → Buf (Elt Ideal) ((c : Thread nD τ).loc b)) (c : Dev nD) (t : Fin cfg2.N) (a : Fin 1024) (b : Fin 4096) :
    iblk2 V c 0 t (ix2 a b) = V c main_v23 (ix2 (⟨t.val / 3 * 1024 + a.val, by have h : t.val < 48 := t.isLt; omega⟩ : Fin 16384) (b : Fin 4096)) := by
  have hi := ix2_0 t
  unfold iblk2
  rw [View.read_apply]
  refine congrArg (V c main_v23) (Shape.idx_ext₂ ?_ ?_)
  · show win2_0.index t 0 * 1024 + 1 * a.val = _; rw [hi.1]; simp <;> omega
  · show win2_0.index t 1 * 4096 + 1 * b.val = _; rw [hi.2]; simp <;> omega

theorem blk2_1 (V : (c : Dev nD) → (b : Ref sig .tc) → Buf (Elt Ideal) ((c : Thread nD τ).loc b)) (c : Dev nD) (t : Fin cfg2.N) (b : Fin 1024) (d : Fin 4096) :
    iblk2 V c 1 t (ix3 0 b d) = V c main_v1 (ix3 ((0 : Fin 2) : Fin 2) (⟨3088 + (t.val % 3 * 1024 + b.val), by have h : t.val < 48 := t.isLt; omega⟩ : Fin 21552) (d : Fin 4096)) := by
  have hi := ix2_1 t
  unfold iblk2
  rw [View.read_apply]
  refine congrArg (V c main_v1) (funext fun x => Fin.ext ?_)
  match x with
  | ⟨0, _⟩ => show win2_1.index t 0 + 1 * 0 = _; rw [hi.1]; simp <;> omega
  | ⟨1, _⟩ => show win2_1.index t 1 + 1 * b.val = _; rw [hi.2.1]; simp <;> omega
  | ⟨2, _⟩ => show win2_1.index t 2 + 1 * d.val = _; rw [hi.2.2]; simp <;> omega

theorem blk2_2 (V : (c : Dev nD) → (b : Ref sig .tc) → Buf (Elt Ideal) ((c : Thread nD τ).loc b)) (c : Dev nD) (t : Fin cfg2.N) (d : Fin 1024) :
    iblk2 V c 2 t (ix3 0 0 d) = V c main_v5 (ix3 ((0 : Fin 2) : Fin 2) ((0 : Fin 1) : Fin 1) (⟨t.val % 3 * 1024 + d.val, by have h : t.val < 48 := t.isLt; omega⟩ : Fin 3072)) := by
  have hi := ix2_2 t
  unfold iblk2
  rw [View.read_apply]
  refine congrArg (V c main_v5) (funext fun x => Fin.ext ?_)
  match x with
  | ⟨0, _⟩ => show win2_2.index t 0 * 1 + 1 * 0 = _; rw [hi.1]; simp <;> omega
  | ⟨1, _⟩ => show win2_2.index t 1 * 1 + 1 * 0 = _; rw [hi.2.1]; simp <;> omega
  | ⟨2, _⟩ => show win2_2.index t 2 * 1024 + 1 * d.val = _; rw [hi.2.2]; simp <;> omega

/-- What call 2 leaves in its result, from its operands. -/
def G2 (x0 : S16384x4096.Idx → EReal) (x1 : S2x21552x4096.Idx → EReal) (x2 : S2x1x3072.Idx → EReal) : S16384x3072.Idx → EReal := fun i =>
  have r : Fin 16384 := i 0
  have j : Fin 3072 := i 1
  (∑ k : Fin 4096, x0 (ix2 r k) * x1 (ix3 0 (⟨3088 + j.val, by omega⟩ : Fin 21552) k)) + x2 (ix3 0 0 j)

theorem flushed2 (V : (c : Dev nD) → (b : Ref sig .tc) → Buf (Elt Ideal) ((c : Thread nD τ).loc b)) (c : Dev nD) (t : Fin cfg2.N) :
    (dat2 V c).flushed 3 t = ((cfg2.win 3).blk t).view.read (Elt Ideal) (G2 (V c main_v23) (V c main_v1) (V c main_v5)) := by
  show (cfg2.win 3).cut (cfg2.grid.coords t) ((dat2 V c).after 3 t) = _
  rw [after2_3]
  unfold out2_3
  rw [View.canon_unit_zero hz2]
  simp only [View.ld_unit_zero (S := S1024x4096) hz2, View.ld_unit_zero (S := S1x1024x4096) hz3, View.ld_unit_zero (S := S1x1x1024) hz3]
  funext y
  rw [View.read_apply]
  obtain ⟨a, b, rfl⟩ : ∃ (a : Fin 1024) (b : Fin 1024), y = ix2 a b := ⟨y 0, y 1, eq_ix2 y⟩
  have hi := ix2_3 t
  have hN : t.val < 48 := t.isLt
  have e : ((View.whole main_v25).slice ((win2 3).rect t)).emb (ix2 a b)
      = (ix2 (⟨t.val / 3 * 1024 + a.val, by omega⟩ : Fin 16384) (⟨t.val % 3 * 1024 + b.val, by omega⟩ : Fin 3072) : S16384x3072.Idx) := by
    refine Shape.idx_ext₂ ?_ ?_
    · show win2_3.index t 0 * 1024 + 1 * a.val = _; rw [hi.1]; simp
    · show win2_3.index t 1 * 1024 + 1 * b.val = _; rw [hi.2]; simp
  rw [e]
  show (k2_pay1 (F := Ideal) _ _ _ (ix2 a b) : EReal) = G2 _ _ _ _
  pointwise [k2_pay1]
  simp only [blk2_0, blk2_1, blk2_2]
  rfl

theorem final2 (V : (c : Dev nD) → (b : Ref sig .tc) → Buf (Elt Ideal) ((c : Thread nD τ).loc b)) (c : Dev nD) :
    (dat2 V c).arrAt 3 cfg2.N = G2 (V c main_v23) (V c main_v1) (V c main_v5) :=
  (dat2 V c).arrAt_eq_of_cover 3 _ (fun t _ => flushed2 V c t) fun i => by
    have h0 : (i 0 : Nat) < 16384 := (i 0).isLt
    have h1 : (i 1 : Nat) < 3072 := (i 1).isLt
    obtain ⟨t, ht⟩ : ∃ t : Fin cfg2.N, t.val = (i 0 : Nat) / 1024 * 3 + (i 1 : Nat) / 1024 := ⟨⟨(i 0 : Nat) / 1024 * 3 + (i 1 : Nat) / 1024, by show _ < 48; omega⟩, rfl⟩
    have hi := ix2_3 t
    refine ⟨t, flush2_3 t, ?_⟩
    show i ∈ ((View.whole main_v25).slice (win2_3.rect t)).set
    rw [View.set_slice_whole, Rect.mem_set_unit]
    intro x
    match x with
    | ⟨0, _⟩ => show win2_3.index t 0 * 1024 ≤ (i 0 : Nat) ∧ (i 0 : Nat) < win2_3.index t 0 * 1024 + 1024; rw [hi.1]; omega
    | ⟨1, _⟩ => show win2_3.index t 1 * 1024 ≤ (i 1 : Nat) ∧ (i 1 : Nat) < win2_3.index t 1 * 1024 + 1024; rw [hi.2]; omega
theorem ix3_0 : ∀ t : Fin cfg3.N, win3_0.index t 0 = t.val / 15 ∧ win3_0.index t 1 = 0 :=
  (by decide +kernel : ∀ t : Fin grid3.N, win3_0.index t 0 = t.val / 15 ∧ win3_0.index t 1 = 0)

theorem ix3_1 : ∀ t : Fin cfg3.N, win3_1.index t 0 = 0 ∧ win3_1.index t 1 = 6192 + 1024 * (t.val % 15) ∧ win3_1.index t 2 = 0 :=
  (by decide +kernel : ∀ t : Fin grid3.N, win3_1.index t 0 = 0 ∧ win3_1.index t 1 = 6192 + 1024 * (t.val % 15) ∧ win3_1.index t 2 = 0)

theorem ix3_2 : ∀ t : Fin cfg3.N, win3_2.index t 0 = 0 ∧ win3_2.index t 1 = 0 ∧ win3_2.index t 2 = t.val % 15 :=
  (by decide +kernel : ∀ t : Fin grid3.N, win3_2.index t 0 = 0 ∧ win3_2.index t 1 = 0 ∧ win3_2.index t 2 = t.val % 15)

theorem ix3_3 : ∀ t : Fin cfg3.N, win3_3.index t 0 = t.val / 15 ∧ win3_3.index t 1 = t.val % 15 :=
  (by decide +kernel : ∀ t : Fin grid3.N, win3_3.index t 0 = t.val / 15 ∧ win3_3.index t 1 = t.val % 15)

theorem blk3_0 (V : (c : Dev nD) → (b : Ref sig .tc) → Buf (Elt Ideal) ((c : Thread nD τ).loc b)) (c : Dev nD) (t : Fin cfg3.N) (a : Fin 1024) (b : Fin 4096) :
    iblk3 V c 0 t (ix2 a b) = V c main_v23 (ix2 (⟨t.val / 15 * 1024 + a.val, by have h : t.val < 240 := t.isLt; omega⟩ : Fin 16384) (b : Fin 4096)) := by
  have hi := ix3_0 t
  unfold iblk3
  rw [View.read_apply]
  refine congrArg (V c main_v23) (Shape.idx_ext₂ ?_ ?_)
  · show win3_0.index t 0 * 1024 + 1 * a.val = _; rw [hi.1]; simp <;> omega
  · show win3_0.index t 1 * 4096 + 1 * b.val = _; rw [hi.2]; simp <;> omega

theorem blk3_1 (V : (c : Dev nD) → (b : Ref sig .tc) → Buf (Elt Ideal) ((c : Thread nD τ).loc b)) (c : Dev nD) (t : Fin cfg3.N) (b : Fin 1024) (d : Fin 4096) :
    iblk3 V c 1 t (ix3 0 b d) = V c main_v1 (ix3 ((0 : Fin 2) : Fin 2) (⟨6192 + (t.val % 15 * 1024 + b.val), by have h : t.val < 240 := t.isLt; omega⟩ : Fin 21552) (d : Fin 4096)) := by
  have hi := ix3_1 t
  unfold iblk3
  rw [View.read_apply]
  refine congrArg (V c main_v1) (funext fun x => Fin.ext ?_)
  match x with
  | ⟨0, _⟩ => show win3_1.index t 0 + 1 * 0 = _; rw [hi.1]; simp <;> omega
  | ⟨1, _⟩ => show win3_1.index t 1 + 1 * b.val = _; rw [hi.2.1]; simp <;> omega
  | ⟨2, _⟩ => show win3_1.index t 2 + 1 * d.val = _; rw [hi.2.2]; simp <;> omega

theorem blk3_2 (V : (c : Dev nD) → (b : Ref sig .tc) → Buf (Elt Ideal) ((c : Thread nD τ).loc b)) (c : Dev nD) (t : Fin cfg3.N) (d : Fin 1024) :
    iblk3 V c 2 t (ix3 0 0 d) = V c main_v7 (ix3 ((0 : Fin 2) : Fin 2) ((0 : Fin 1) : Fin 1) (⟨t.val % 15 * 1024 + d.val, by have h : t.val < 240 := t.isLt; omega⟩ : Fin 15360)) := by
  have hi := ix3_2 t
  unfold iblk3
  rw [View.read_apply]
  refine congrArg (V c main_v7) (funext fun x => Fin.ext ?_)
  match x with
  | ⟨0, _⟩ => show win3_2.index t 0 * 1 + 1 * 0 = _; rw [hi.1]; simp <;> omega
  | ⟨1, _⟩ => show win3_2.index t 1 * 1 + 1 * 0 = _; rw [hi.2.1]; simp <;> omega
  | ⟨2, _⟩ => show win3_2.index t 2 * 1024 + 1 * d.val = _; rw [hi.2.2]; simp <;> omega

/-- What call 3 leaves in its result, from its operands. -/
def G3 (x0 : S16384x4096.Idx → EReal) (x1 : S2x21552x4096.Idx → EReal) (x2 : S2x1x15360.Idx → EReal) : S16384x15360.Idx → EReal := fun i =>
  have r : Fin 16384 := i 0
  have j : Fin 15360 := i 1
  (∑ k : Fin 4096, x0 (ix2 r k) * x1 (ix3 0 (⟨6192 + j.val, by omega⟩ : Fin 21552) k)) + x2 (ix3 0 0 j)

theorem flushed3 (V : (c : Dev nD) → (b : Ref sig .tc) → Buf (Elt Ideal) ((c : Thread nD τ).loc b)) (c : Dev nD) (t : Fin cfg3.N) :
    (dat3 V c).flushed 3 t = ((cfg3.win 3).blk t).view.read (Elt Ideal) (G3 (V c main_v23) (V c main_v1) (V c main_v7)) := by
  show (cfg3.win 3).cut (cfg3.grid.coords t) ((dat3 V c).after 3 t) = _
  rw [after3_3]
  unfold out3_3
  rw [View.canon_unit_zero hz2]
  simp only [View.ld_unit_zero (S := S1024x4096) hz2, View.ld_unit_zero (S := S1x1024x4096) hz3, View.ld_unit_zero (S := S1x1x1024) hz3]
  funext y
  rw [View.read_apply]
  obtain ⟨a, b, rfl⟩ : ∃ (a : Fin 1024) (b : Fin 1024), y = ix2 a b := ⟨y 0, y 1, eq_ix2 y⟩
  have hi := ix3_3 t
  have hN : t.val < 240 := t.isLt
  have e : ((View.whole main_v26).slice ((win3 3).rect t)).emb (ix2 a b)
      = (ix2 (⟨t.val / 15 * 1024 + a.val, by omega⟩ : Fin 16384) (⟨t.val % 15 * 1024 + b.val, by omega⟩ : Fin 15360) : S16384x15360.Idx) := by
    refine Shape.idx_ext₂ ?_ ?_
    · show win3_3.index t 0 * 1024 + 1 * a.val = _; rw [hi.1]; simp
    · show win3_3.index t 1 * 1024 + 1 * b.val = _; rw [hi.2]; simp
  rw [e]
  show (k3_pay1 (F := Ideal) _ _ _ (ix2 a b) : EReal) = G3 _ _ _ _
  pointwise [k3_pay1]
  simp only [blk3_0, blk3_1, blk3_2]
  rfl

theorem final3 (V : (c : Dev nD) → (b : Ref sig .tc) → Buf (Elt Ideal) ((c : Thread nD τ).loc b)) (c : Dev nD) :
    (dat3 V c).arrAt 3 cfg3.N = G3 (V c main_v23) (V c main_v1) (V c main_v7) :=
  (dat3 V c).arrAt_eq_of_cover 3 _ (fun t _ => flushed3 V c t) fun i => by
    have h0 : (i 0 : Nat) < 16384 := (i 0).isLt
    have h1 : (i 1 : Nat) < 15360 := (i 1).isLt
    obtain ⟨t, ht⟩ : ∃ t : Fin cfg3.N, t.val = (i 0 : Nat) / 1024 * 15 + (i 1 : Nat) / 1024 := ⟨⟨(i 0 : Nat) / 1024 * 15 + (i 1 : Nat) / 1024, by show _ < 240; omega⟩, rfl⟩
    have hi := ix3_3 t
    refine ⟨t, flush3_3 t, ?_⟩
    show i ∈ ((View.whole main_v26).slice (win3_3.rect t)).set
    rw [View.set_slice_whole, Rect.mem_set_unit]
    intro x
    match x with
    | ⟨0, _⟩ => show win3_3.index t 0 * 1024 ≤ (i 0 : Nat) ∧ (i 0 : Nat) < win3_3.index t 0 * 1024 + 1024; rw [hi.1]; omega
    | ⟨1, _⟩ => show win3_3.index t 1 * 1024 ≤ (i 1 : Nat) ∧ (i 1 : Nat) < win3_3.index t 1 * 1024 + 1024; rw [hi.2]; omega
theorem ix4_0 : ∀ t : Fin cfg4.N, win4_0.index t 0 = t.val ∧ win4_0.index t 1 = 0 :=
  (by decide +kernel : ∀ t : Fin grid4.N, win4_0.index t 0 = t.val ∧ win4_0.index t 1 = 0)

theorem ix4_1 : ∀ t : Fin cfg4.N, win4_1.index t 0 = 0 ∧ win4_1.index t 1 = 0 ∧ win4_1.index t 2 = 0 :=
  (by decide +kernel : ∀ t : Fin grid4.N, win4_1.index t 0 = 0 ∧ win4_1.index t 1 = 0 ∧ win4_1.index t 2 = 0)

theorem ix4_2 : ∀ t : Fin cfg4.N, win4_2.index t 0 = 0 ∧ win4_2.index t 1 = 0 ∧ win4_2.index t 2 = 0 :=
  (by decide +kernel : ∀ t : Fin grid4.N, win4_2.index t 0 = 0 ∧ win4_2.index t 1 = 0 ∧ win4_2.index t 2 = 0)

theorem ix4_3 : ∀ t : Fin cfg4.N, win4_3.index t 0 = t.val ∧ win4_3.index t 1 = 0 :=
  (by decide +kernel : ∀ t : Fin grid4.N, win4_3.index t 0 = t.val ∧ win4_3.index t 1 = 0)

theorem blk4_0 (V : (c : Dev nD) → (b : Ref sig .tc) → Buf (Elt Ideal) ((c : Thread nD τ).loc b)) (c : Dev nD) (t : Fin cfg4.N) (a : Fin 1024) (b : Fin 4096) :
    iblk4 V c 0 t (ix2 a b) = V c main_v23 (ix2 (⟨t.val * 1024 + a.val, by have h : t.val < 16 := t.isLt; omega⟩ : Fin 16384) (b : Fin 4096)) := by
  have hi := ix4_0 t
  unfold iblk4
  rw [View.read_apply]
  refine congrArg (V c main_v23) (Shape.idx_ext₂ ?_ ?_)
  · show win4_0.index t 0 * 1024 + 1 * a.val = _; rw [hi.1]; simp <;> omega
  · show win4_0.index t 1 * 4096 + 1 * b.val = _; rw [hi.2]; simp <;> omega

theorem blk4_1 (V : (c : Dev nD) → (b : Ref sig .tc) → Buf (Elt Ideal) ((c : Thread nD τ).loc b)) (c : Dev nD) (t : Fin cfg4.N) (b : Fin 128) (d : Fin 4096) :
    iblk4 V c 1 t (ix3 0 b d) = V c main_v11 (ix3 ((0 : Fin 2) : Fin 2) (b : Fin 128) (d : Fin 4096)) := by
  have hi := ix4_1 t
  unfold iblk4
  rw [View.read_apply]
  refine congrArg (V c main_v11) (funext fun x => Fin.ext ?_)
  match x with
  | ⟨0, _⟩ => show win4_1.index t 0 + 1 * 0 = _; rw [hi.1]; simp <;> omega
  | ⟨1, _⟩ => show win4_1.index t 1 + 1 * b.val = _; rw [hi.2.1]; simp <;> omega
  | ⟨2, _⟩ => show win4_1.index t 2 + 1 * d.val = _; rw [hi.2.2]; simp <;> omega

theorem blk4_2 (V : (c : Dev nD) → (b : Ref sig .tc) → Buf (Elt Ideal) ((c : Thread nD τ).loc b)) (c : Dev nD) (t : Fin cfg4.N) (d : Fin 128) :
    iblk4 V c 2 t (ix3 0 0 d) = V c main_v16 (ix3 ((0 : Fin 2) : Fin 2) ((0 : Fin 1) : Fin 1) (d : Fin 128)) := by
  have hi := ix4_2 t
  unfold iblk4
  rw [View.read_apply]
  refine congrArg (V c main_v16) (funext fun x => Fin.ext ?_)
  match x with
  | ⟨0, _⟩ => show win4_2.index t 0 * 1 + 1 * 0 = _; rw [hi.1]; simp <;> omega
  | ⟨1, _⟩ => show win4_2.index t 1 * 1 + 1 * 0 = _; rw [hi.2.1]; simp <;> omega
  | ⟨2, _⟩ => show win4_2.index t 2 * 128 + 1 * d.val = _; rw [hi.2.2]; simp <;> omega

/-- What call 4 leaves in its result, from its operands. -/
def G4 (x0 : S16384x4096.Idx → EReal) (x1 : S2x128x4096.Idx → EReal) (x2 : S2x1x128.Idx → EReal) : S16384x128.Idx → EReal := fun i =>
  have r : Fin 16384 := i 0
  have j : Fin 128 := i 1
  (∑ k : Fin 4096, x0 (ix2 r k) * x1 (ix3 0 j k)) + x2 (ix3 0 0 j)

theorem flushed4 (V : (c : Dev nD) → (b : Ref sig .tc) → Buf (Elt Ideal) ((c : Thread nD τ).loc b)) (c : Dev nD) (t : Fin cfg4.N) :
    (dat4 V c).flushed 3 t = ((cfg4.win 3).blk t).view.read (Elt Ideal) (G4 (V c main_v23) (V c main_v11) (V c main_v16)) := by
  show (cfg4.win 3).cut (cfg4.grid.coords t) ((dat4 V c).after 3 t) = _
  rw [after4_3]
  unfold out4_3
  rw [View.canon_unit_zero hz2]
  simp only [View.ld_unit_zero (S := S1024x4096) hz2, View.ld_unit_zero (S := S1x128x4096) hz3, View.ld_unit_zero (S := S1x1x128) hz3]
  funext y
  rw [View.read_apply]
  obtain ⟨a, b, rfl⟩ : ∃ (a : Fin 1024) (b : Fin 128), y = ix2 a b := ⟨y 0, y 1, eq_ix2 y⟩
  have hi := ix4_3 t
  have hN : t.val < 16 := t.isLt
  have e : ((View.whole main_v27).slice ((win4 3).rect t)).emb (ix2 a b)
      = (ix2 (⟨t.val * 1024 + a.val, by omega⟩ : Fin 16384) (b : Fin 128) : S16384x128.Idx) := by
    refine Shape.idx_ext₂ ?_ ?_
    · show win4_3.index t 0 * 1024 + 1 * a.val = _; rw [hi.1]; simp
    · show win4_3.index t 1 * 128 + 1 * b.val = _; rw [hi.2]; simp
  rw [e]
  show (k4_pay1 (F := Ideal) _ _ _ (ix2 a b) : EReal) = G4 _ _ _ _
  pointwise [k4_pay1]
  simp only [blk4_0, blk4_1, blk4_2]
  rfl

theorem final4 (V : (c : Dev nD) → (b : Ref sig .tc) → Buf (Elt Ideal) ((c : Thread nD τ).loc b)) (c : Dev nD) :
    (dat4 V c).arrAt 3 cfg4.N = G4 (V c main_v23) (V c main_v11) (V c main_v16) :=
  (dat4 V c).arrAt_eq_of_cover 3 _ (fun t _ => flushed4 V c t) fun i => by
    have h0 : (i 0 : Nat) < 16384 := (i 0).isLt
    have h1 : (i 1 : Nat) < 128 := (i 1).isLt
    obtain ⟨t, ht⟩ : ∃ t : Fin cfg4.N, t.val = (i 0 : Nat) / 1024 := ⟨⟨(i 0 : Nat) / 1024, by show _ < 16; omega⟩, rfl⟩
    have hi := ix4_3 t
    refine ⟨t, flush4_3 t, ?_⟩
    show i ∈ ((View.whole main_v27).slice (win4_3.rect t)).set
    rw [View.set_slice_whole, Rect.mem_set_unit]
    intro x
    match x with
    | ⟨0, _⟩ => show win4_3.index t 0 * 1024 ≤ (i 0 : Nat) ∧ (i 0 : Nat) < win4_3.index t 0 * 1024 + 1024; rw [hi.1]; omega
    | ⟨1, _⟩ => show win4_3.index t 1 * 128 ≤ (i 1 : Nat) ∧ (i 1 : Nat) < win4_3.index t 1 * 128 + 128; rw [hi.2]; omega

end Cert.KernelIdeal.Hand
-- ==== Proof.Run.lean ====
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with each buffer at the contents the last boundary names. -/
theorem run : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Cert.KernelIdeal.Hand

end
-- ==== Proof.Values.lean ====
module

public import proofs.«01_k».proof.Proof.Calls
public import proofs.«01_k».proof.Proof.Run

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! The arrays the calls take, as the host code makes them of the arguments. -/

theorem W1_v1 (c : Dev nD) : W1 m ρ c main_v1 = truncf (F := Ideal) .bf16 (transpose S2x21552x4096 [0, 2, 1] (m ((c : Thread nD τ).loc main_arg2)) transposes_S2x4096x21552_S2x21552x4096_0_2_1) bitsLt_bf16_f32 := by
  unfold W1
  show StableHlo.after hostOps0 _ _ = _
  after_results <;> rfl

theorem W1_v3 (c : Dev nD) : W1 m ρ c main_v3 = broadcastInDim S2x1x3072 ![0, 2] bcast_S2x3072_S2x1x3072_0_2 (extractStridedSlice S2x3072 ![0, 0] (m ((c : Thread nD τ).loc main_arg3)) slices_S2x21552_S2x3072_0_0) := by
  unfold W1
  show StableHlo.after hostOps0 _ _ = _
  after_results <;> rfl

theorem W1_v5 (c : Dev nD) : W1 m ρ c main_v5 = broadcastInDim S2x1x3072 ![0, 2] bcast_S2x3072_S2x1x3072_0_2 (extractStridedSlice S2x3072 ![0, 3088] (m ((c : Thread nD τ).loc main_arg3)) slices_S2x21552_S2x3072_0_3088) := by
  unfold W1
  show StableHlo.after hostOps0 _ _ = _
  after_results <;> rfl

theorem W1_v7 (c : Dev nD) : W1 m ρ c main_v7 = broadcastInDim S2x1x15360 ![0, 2] bcast_S2x15360_S2x1x15360_0_2 (extractStridedSlice S2x15360 ![0, 6192] (m ((c : Thread nD τ).loc main_arg3)) slices_S2x21552_S2x15360_0_6192) := by
  unfold W1
  show StableHlo.after hostOps0 _ _ = _
  after_results <;> rfl

theorem W1_v10 (c : Dev nD) : W1 m ρ c main_v10 = concatenate S2x48x4096 1 [⟨S2x16x4096, extractStridedSlice S2x16x4096 ![0, 3072, 0] (truncf (F := Ideal) .bf16 (transpose S2x21552x4096 [0, 2, 1] (m ((c : Thread nD τ).loc main_arg2)) transposes_S2x4096x21552_S2x21552x4096_0_2_1) bitsLt_bf16_f32) slices_S2x21552x4096_S2x16x4096_0_3072_0⟩, ⟨S2x32x4096, extractStridedSlice S2x32x4096 ![0, 6160, 0] (truncf (F := Ideal) .bf16 (transpose S2x21552x4096 [0, 2, 1] (m ((c : Thread nD τ).loc main_arg2)) transposes_S2x4096x21552_S2x21552x4096_0_2_1) bitsLt_bf16_f32) slices_S2x21552x4096_S2x32x4096_0_6160_0⟩] concatenates_S2x16x4096_S2x32x4096_S2x48x4096_d1 := by
  unfold W1
  show StableHlo.after hostOps0 _ _ = _
  after_results <;> rfl

theorem W1_c (c : Dev nD) : W1 m ρ c main_c = constantI S_ 32 0#32 := by
  unfold W1
  show StableHlo.after hostOps0 _ _ = _
  after_results <;> rfl

theorem W2_v11 (c : Dev nD) : W2 m ρ c main_v11 = pad S2x128x4096 ![0, 0, 0] ![0, 80, 0] ![0, 0, 0] (W1 m ρ c main_v10) (sitofp (F := Ideal) .bf16 (W1 m ρ c main_c)) pads_S2x48x4096_S2x128x4096_000_0800_000 h_S_ := by
  unfold W2
  show StableHlo.after hostOps0_1 _ _ = _
  after_results <;> rfl

theorem W3_v14 (c : Dev nD) : W3 m ρ c main_v14 = concatenate S2x48 1 [⟨S2x16, extractStridedSlice S2x16 ![0, 3072] (W2 m ρ c main_arg3) slices_S2x21552_S2x16_0_3072⟩, ⟨S2x32, extractStridedSlice S2x32 ![0, 6160] (W2 m ρ c main_arg3) slices_S2x21552_S2x32_0_6160⟩] concatenates_S2x16_S2x32_S2x48_d1 := by
  unfold W3
  show StableHlo.after hostOps0_2 _ _ = _
  after_results <;> rfl

theorem W3_c_0 (c : Dev nD) : W3 m ρ c main_c_0 = constantI S_ 32 0#32 := by
  unfold W3
  show StableHlo.after hostOps0_2 _ _ = _
  after_results <;> rfl

theorem W4_v15 (c : Dev nD) : W4 m ρ c main_v15 = pad S2x128 ![0, 0] ![0, 80] ![0, 0] (W3 m ρ c main_v14) (sitofp (F := Ideal) .f32 (W3 m ρ c main_c_0)) pads_S2x48_S2x128_000_0800 h_S_ := by
  unfold W4
  show StableHlo.after hostOps0_3 _ _ = _
  after_results <;> rfl

theorem W5_v16 (c : Dev nD) : W5 m ρ c main_v16 = broadcastInDim S2x1x128 ![0, 2] bcast_S2x128_S2x1x128_0_2 (W4 m ρ c main_v15) := by
  unfold W5
  show StableHlo.after hostOps0_4 _ _ = _
  after_results <;> rfl

theorem W5_v17 (c : Dev nD) : W5 m ρ c main_v17 = shapeCast S16384x4096 (W4 m ρ c main_arg0) shapeCasts_S2x8192x4096_S16384x4096 := by
  unfold W5
  show StableHlo.after hostOps0_4 _ _ = _
  after_results <;> rfl

theorem W5_v22 (c : Dev nD) : W5 m ρ c main_v22 = shapeCast S1x4096 (shapeCast S4096 (extractStridedSlice S1x4096 ![0, 0] (shapeCast S4x4096 (extractStridedSlice S1x4x4096 ![0, 0, 0] (W4 m ρ c main_arg1) slices_S2x4x4096_S1x4x4096_0_0_0) shapeCasts_S1x4x4096_S4x4096) slices_S4x4096_S1x4096_0_0) shapeCasts_S1x4096_S4096) shapeCasts_S4096_S1x4096 := by
  unfold W5
  show StableHlo.after hostOps0_4 _ _ = _
  after_results <;> rfl

/-! The same at one index. -/

theorem w_at (c : Dev nD) (l : Fin 21552) (k : Fin 4096) : W1 m ρ c main_v1 (ix3 0 l k) = (m ((c : Thread nD τ).loc main_arg2)) (ix3 0 k l) := by
  rw [W1_v1]
  pointwise

theorem v22_at (c : Dev nD) (k : Fin 4096) : W5 m ρ c main_v22 (ix2 0 k) = (m ((c : Thread nD τ).loc main_arg1)) (ix3 0 0 k) := by
  rw [W5_v22, W4_args m ρ c main_arg1 (by decide)]
  pointwise

theorem v11_at (c : Dev nD) (j : Fin 48) (k : Fin 4096) : W2 m ρ c main_v11 (ix3 0 ⟨j.val, by omega⟩ k)
    = (m ((c : Thread nD τ).loc main_arg2)) (ix3 0 k (if h : j.val < 16 then ⟨3072 + j.val, by omega⟩ else ⟨6160 + (j.val - 16), by omega⟩)) := by
  rw [W2_v11, W1_v10]
  pointwise
  rw [dif_pos]
  · split <;> rfl
  · intro a
    match a with
    | ⟨0, _⟩ => exact ⟨Nat.zero_le _, Nat.mod_one _, by show (0 - 0) / 1 < 2; omega⟩
    | ⟨1, _⟩ => exact ⟨Nat.zero_le _, Nat.mod_one _, by have := j.isLt; show (j.val - 0) / 1 < 48; omega⟩
    | ⟨2, _⟩ => exact ⟨Nat.zero_le _, Nat.mod_one _, by have := k.isLt; show (k.val - 0) / 1 < 4096; omega⟩

theorem v16_at (c : Dev nD) (j : Fin 48) : W5 m ρ c main_v16 (ix3 0 0 ⟨j.val, by omega⟩)
    = (m ((c : Thread nD τ).loc main_arg3)) (ix2 0 (if h : j.val < 16 then ⟨3072 + j.val, by omega⟩ else ⟨6160 + (j.val - 16), by omega⟩)) := by
  rw [W5_v16, W4_v15, W3_v14, W2_args m ρ c main_arg3 (by decide)]
  pointwise
  rw [dif_pos]
  · split <;> rfl
  · intro a
    match a with
    | ⟨0, _⟩ => exact ⟨Nat.zero_le _, Nat.mod_one _, by show (0 - 0) / 1 < 2; omega⟩
    | ⟨1, _⟩ => exact ⟨Nat.zero_le _, Nat.mod_one _, by have := j.isLt; show (j.val - 0) / 1 < 48; omega⟩

/-! The results. -/

theorem in_x (c : Dev nD) : W6 m ρ c main_v23 = G0 (W5 m ρ c main_v17) (W5 m ρ c main_v22) :=
  (W6_arr m ρ c 2).trans (final0 (V5 m ρ) c)

theorem res_v24 (c : Dev nD) : W11 m ρ c main_v24 = G1 (W6 m ρ c main_v23) (W1 m ρ c main_v1) (W1 m ρ c main_v3) := by
  refine ((W11_of m ρ c main_v24 (by decide)).trans ((W10_of m ρ c main_v24 (by decide)).trans ((W9_of m ρ c main_v24 (by decide)).trans (W8_of m ρ c main_v24 (by decide))))).trans ((W7_arr m ρ c 3).trans ((final1 (V6 m ρ) c).trans ?_))
  show G1 (W6 m ρ c main_v23) (W6 m ρ c main_v1) (W6 m ρ c main_v3) = _
  rw [show W6 m ρ c main_v1 = W1 m ρ c main_v1 from (W6_of m ρ c main_v1 (by decide)).trans ((W5_of m ρ c main_v1 (by decide)).trans ((W4_of m ρ c main_v1 (by decide)).trans ((W3_of m ρ c main_v1 (by decide)).trans (W2_of m ρ c main_v1 (by decide))))),
    show W6 m ρ c main_v3 = W1 m ρ c main_v3 from (W6_of m ρ c main_v3 (by decide)).trans ((W5_of m ρ c main_v3 (by decide)).trans ((W4_of m ρ c main_v3 (by decide)).trans ((W3_of m ρ c main_v3 (by decide)).trans (W2_of m ρ c main_v3 (by decide)))))]

theorem res_v25 (c : Dev nD) : W11 m ρ c main_v25 = G2 (W6 m ρ c main_v23) (W1 m ρ c main_v1) (W1 m ρ c main_v5) := by
  refine ((W11_of m ρ c main_v25 (by decide)).trans ((W10_of m ρ c main_v25 (by decide)).trans (W9_of m ρ c main_v25 (by decide)))).trans ((W8_arr m ρ c 3).trans ((final2 (V7 m ρ) c).trans ?_))
  show G2 (W7 m ρ c main_v23) (W7 m ρ c main_v1) (W7 m ρ c main_v5) = _
  rw [show W7 m ρ c main_v23 = W6 m ρ c main_v23 from W7_of m ρ c main_v23 (by decide), show W7 m ρ c main_v1 = W1 m ρ c main_v1 from (W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide)))))),
    show W7 m ρ c main_v5 = W1 m ρ c main_v5 from (W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide))))))]

theorem res_v26 (c : Dev nD) : W11 m ρ c main_v26 = G3 (W6 m ρ c main_v23) (W1 m ρ c main_v1) (W1 m ρ c main_v7) := by
  refine ((W11_of m ρ c main_v26 (by decide)).trans (W10_of m ρ c main_v26 (by decide))).trans ((W9_arr m ρ c 3).trans ((final3 (V8 m ρ) c).trans ?_))
  show G3 (W8 m ρ c main_v23) (W8 m ρ c main_v1) (W8 m ρ c main_v7) = _
  rw [show W8 m ρ c main_v23 = W6 m ρ c main_v23 from (W8_of m ρ c main_v23 (by decide)).trans (W7_of m ρ c main_v23 (by decide)), show W8 m ρ c main_v1 = W1 m ρ c main_v1 from (W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))),
    show W8 m ρ c main_v7 = W1 m ρ c main_v7 from (W8_of m ρ c main_v7 (by decide)).trans ((W7_of m ρ c main_v7 (by decide)).trans ((W6_of m ρ c main_v7 (by decide)).trans ((W5_of m ρ c main_v7 (by decide)).trans ((W4_of m ρ c main_v7 (by decide)).trans ((W3_of m ρ c main_v7 (by decide)).trans (W2_of m ρ c main_v7 (by decide)))))))]

theorem res_v28 (c : Dev nD) : W11 m ρ c main_v28 = extractStridedSlice S16384x48 ![0, 0] (G4 (W6 m ρ c main_v23) (W2 m ρ c main_v11) (W5 m ρ c main_v16)) slices_S16384x128_S16384x48_0_0 := by
  have h : W10 m ρ c main_v27 = G4 (W6 m ρ c main_v23) (W2 m ρ c main_v11) (W5 m ρ c main_v16) := by
    refine (W10_arr m ρ c 3).trans ((final4 (V9 m ρ) c).trans ?_)
    show G4 (W9 m ρ c main_v23) (W9 m ρ c main_v11) (W9 m ρ c main_v16) = _
    rw [show W9 m ρ c main_v23 = W6 m ρ c main_v23 from (W9_of m ρ c main_v23 (by decide)).trans ((W8_of m ρ c main_v23 (by decide)).trans (W7_of m ρ c main_v23 (by decide))),
      show W9 m ρ c main_v11 = W2 m ρ c main_v11 from (W9_of m ρ c main_v11 (by decide)).trans ((W8_of m ρ c main_v11 (by decide)).trans ((W7_of m ρ c main_v11 (by decide)).trans ((W6_of m ρ c main_v11 (by decide)).trans ((W5_of m ρ c main_v11 (by decide)).trans ((W4_of m ρ c main_v11 (by decide)).trans (W3_of m ρ c main_v11 (by decide))))))),
      show W9 m ρ c main_v16 = W5 m ρ c main_v16 from (W9_of m ρ c main_v16 (by decide)).trans ((W8_of m ρ c main_v16 (by decide)).trans ((W7_of m ρ c main_v16 (by decide)).trans (W6_of m ρ c main_v16 (by decide))))]
  rw [← h]
  unfold W11
  show StableHlo.after hostOps5 _ _ = _
  after_results <;> rfl

end Cert.KernelIdeal.Hand

end
-- ==== Proof.InProj.lean ====
module

public import proofs.«01_k».proof.Defs
public import proofs.«01_k».proof.Proof.Values
public import proofs.«01_k».proof.Proof.Gen.KernelIdeal
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.InProj

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (ρ : Dev nD → PrngReg)

theorem lin_congr {n : Nat} {x x' y y' : Fin n → EReal} {b b' : EReal} (hx : ∀ k, x k = x' k) (hy : ∀ k, y k = y' k) (hb : b = b') :
    (∑ k, x k * y k) + b = (∑ k, x' k * y' k) + b' := by
  rw [funext hx, funext hy, hb]

theorem G0_apply (x0 : S16384x4096.Idx → EReal) (x1 : S1x4096.Idx → EReal) (r : Fin 16384) (j : Fin 4096) : G0 x0 x1 (ix2 r j)
    = x0 (ix2 r j) * Ideal.rsqrt (Ideal.div (∑ k : Fin 4096, x0 (ix2 r k) * x0 (ix2 r k)) (Ideal.ofBits .f32 0x45800000#32) + Ideal.ofBits .f32 0x358637BD#32) * x1 (ix2 0 j) := rfl

/-- The normalised entry, of the arguments. -/
def xn (x : S2x8192x4096.Idx → EReal) (g : S2x4x4096.Idx → EReal) (a : Fin 16384) (k : Fin 4096) : EReal :=
  x (ix3 (⟨a.val / 8192, by omega⟩ : Fin 2) (⟨a.val % 8192, by omega⟩ : Fin 8192) k) * Ideal.rsqrt (Ideal.div (∑ k : Fin 4096, x (ix3 (⟨a.val / 8192, by omega⟩ : Fin 2) (⟨a.val % 8192, by omega⟩ : Fin 8192) k) * x (ix3 (⟨a.val / 8192, by omega⟩ : Fin 2) (⟨a.val % 8192, by omega⟩ : Fin 8192) k)) (Ideal.ofBits .f32 0x45800000#32) + Ideal.ofBits .f32 0x358637BD#32) * g (ix3 0 0 k)

theorem xn_at (c : Dev nD) (a : Fin 16384) (k : Fin 4096) : W6 m ρ c main_v23 (ix2 a k)
    = xn (m ((c : Thread nD τ).loc main_arg0)) (m ((c : Thread nD τ).loc main_arg1)) a k := by
  rw [in_x, W5_v17, W4_args m ρ c main_arg0 (by decide), G0_apply, v22_at]
  unfold xn
  pointwise

theorem algebraic : @Cert.algebraic_KernelIdeal_ReferenceIdeal Cert.KernelIdeal.Gen.facts Cert.ReferenceIdeal.Gen.facts := by
  intro m ρ m' ρ' _ hagree
  refine ⟨fun c => W11 m ρ c main_v24, fun c => W11 m ρ c main_v25, fun c => W11 m ρ c main_v26, fun c => W11 m ρ c main_v28, ?_, ?_⟩
  · exact (θ_run Cert.KernelIdeal.defs _ _).mono (fun r h c =>
      ⟨h c _ (mem_uc main_v24 (by decide)), h c _ (mem_uc main_v25 (by decide)), h c _ (mem_uc main_v26 (by decide)), h c _ (mem_uc main_v28 (by decide)),
        (h c _ (mem_uc main_arg0 (by decide))).trans (W11_main_arg0 m ρ c), (h c _ (mem_uc main_arg1 (by decide))).trans (W11_main_arg1 m ρ c),
        (h c _ (mem_uc main_arg2 (by decide))).trans (W11_main_arg2 m ρ c), (h c _ (mem_uc main_arg3 (by decide))).trans (W11_main_arg3 m ρ c)⟩) (run m ρ)
  · refine (θ_run Cert.ReferenceIdeal.defs _ _).mono (fun r h c => ⟨(h c).1.trans ?_, (h c).2.1.trans ?_, (h c).2.2.1.trans ?_, (h c).2.2.2.1.trans ?_, (h c).2.2.2.2⟩) (Cert.ReferenceIdeal.Value.run m' ρ')
    all_goals obtain ⟨h0, h1, h2, h3⟩ := hagree c
    all_goals rw [h0, h1, h2, h3]
    all_goals clear h hagree h0 h1 h2 h3
    · show _ = W11 m ρ c main_v24
      rw [res_v24, W1_v3]
      funext j
      obtain ⟨a, b, rfl⟩ : ∃ (a : Fin 16384) (b : Fin 3072), j = ix2 a b := ⟨j 0, j 1, eq_ix2 j⟩
      refine Eq.trans ?_ (lin_congr (fun k => (xn_at m ρ c a k).symm) (fun k => (w_at m ρ c _ k).symm) rfl)
      unfold xn
      pointwise
    · show _ = W11 m ρ c main_v25
      rw [res_v25, W1_v5]
      funext j
      obtain ⟨a, b, rfl⟩ : ∃ (a : Fin 16384) (b : Fin 3072), j = ix2 a b := ⟨j 0, j 1, eq_ix2 j⟩
      refine Eq.trans ?_ (lin_congr (fun k => (xn_at m ρ c a k).symm) (fun k => (w_at m ρ c _ k).symm) rfl)
      unfold xn
      pointwise
    · show _ = W11 m ρ c main_v26
      rw [res_v26, W1_v7]
      funext j
      obtain ⟨a, b, rfl⟩ : ∃ (a : Fin 16384) (b : Fin 15360), j = ix2 a b := ⟨j 0, j 1, eq_ix2 j⟩
      refine Eq.trans ?_ (lin_congr (fun k => (xn_at m ρ c a k).symm) (fun k => (w_at m ρ c _ k).symm) rfl)
      unfold xn
      pointwise
    · show _ = W11 m ρ c main_v28
      rw [res_v28]
      funext j
      obtain ⟨a, b, rfl⟩ : ∃ (a : Fin 16384) (b : Fin 48), j = ix2 a b := ⟨j 0, j 1, eq_ix2 j⟩
      have e : ∀ f : S16384x128.Idx → EReal, extractStridedSlice S16384x48 ![0, 0] f slices_S16384x128_S16384x48_0_0 (ix2 a b) = f (ix2 a (⟨b.val, by omega⟩ : Fin 128)) :=
        fun f => congrArg f (Shape.idx_ext₂ (Nat.zero_add _) (Nat.zero_add _))
      refine Eq.trans ?_ (e _).symm
      refine Eq.trans ?_ (lin_congr (fun k => (xn_at m ρ c a k).symm) (fun k => (v11_at m ρ c b k).symm) (v16_at m ρ c b).symm)
      unfold xn
      pointwise
      split <;> rfl

end Cert.InProj

end
-- ==== Proof.Run2.lean ====
module

public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with each buffer at the contents the last boundary names. -/
theorem run : θ_run defs (onTc (τ := τ) (main (F := F))) ⟨m, fun _ => 0, ρ⟩ (fun r => ∀ c : Dev nD,
      ∀ b ∈ Pipeline.ucRefs τ sig, r.2.mem ((c : Thread nD τ).1, b) = W21 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ => h)

end Cert.Kernel2Ideal.Hand

end
-- ==== Proof.Zero.lean ====
module

public import proofs.«01_k».proof.Proof.Gen.Kernel2Ideal
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

theorem hz4 : (![0, 0, 0, 0] : Fin 4 → Nat) = fun _ => 0 := funext fun a => by fin_cases a <;> rfl

theorem idx_ext4 {n0 n1 n2 n3 : Nat} {i : (⟨4, ![n0, n1, n2, n3]⟩ : Shape).Idx} {a : Fin n0} {b : Fin n1} {d : Fin n2} {e : Fin n3}
    (h0 : (i 0).val = a.val) (h1 : (i 1).val = b.val) (h2 : (i 2).val = d.val) (h3 : (i 3).val = e.val) : i = ix4 a b d e :=
  funext fun x => Fin.ext (match x with
    | ⟨0, _⟩ => h0
    | ⟨1, _⟩ => h1
    | ⟨2, _⟩ => h2
    | ⟨3, _⟩ => h3)

end Cert.Kernel2Ideal.Hand

end
-- ==== Proof.HeadNorms.lean ====
module

public import proofs.«01_k».proof.Proof.Gen.Kernel2Ideal.Frame.Region0
public import proofs.«01_k».proof.Proof.Gen.Kernel2Ideal.Frame.Region1
public import proofs.«01_k».proof.Proof.Zero
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem ix0_0 : ∀ t : Fin cfg0.N, win0_0.index t 0 = t.val ∧ win0_0.index t 1 = 0 :=
  (by decide +kernel : ∀ t : Fin grid0.N, win0_0.index t 0 = t.val ∧ win0_0.index t 1 = 0)

theorem ix0_1 : ∀ t : Fin cfg0.N, win0_1.index t 0 = t.val ∧ win0_1.index t 1 = 0 :=
  (by decide +kernel : ∀ t : Fin grid0.N, win0_1.index t 0 = t.val ∧ win0_1.index t 1 = 0)

theorem ix0_2 : ∀ t : Fin cfg0.N, win0_2.index t 0 = t.val ∧ win0_2.index t 1 = 2 :=
  (by decide +kernel : ∀ t : Fin grid0.N, win0_2.index t 0 = t.val ∧ win0_2.index t 1 = 2)

theorem ix0_3 : ∀ t : Fin cfg0.N, win0_3.index t 0 = 0 ∧ win0_3.index t 1 = 0 :=
  (by decide +kernel : ∀ t : Fin grid0.N, win0_3.index t 0 = 0 ∧ win0_3.index t 1 = 0)

theorem ix0_4 : ∀ t : Fin cfg0.N, win0_4.index t 0 = t.val ∧ win0_4.index t 1 = 0 :=
  (by decide +kernel : ∀ t : Fin grid0.N, win0_4.index t 0 = t.val ∧ win0_4.index t 1 = 0)

theorem blk0_0 (V : (c : Dev nD) → (b : Ref sig .tc) → Buf (Elt Ideal) ((c : Thread nD τ).loc b)) (c : Dev nD) (t : Fin cfg0.N) (a : Fin 512) (b : Fin 1024) :
    iblk0 V c 0 t (ix2 a b) = V c main_arg1 (ix2 (⟨t.val * 512 + a.val, by have h : t.val < 32 := t.isLt; omega⟩ : Fin 16384) (b : Fin 1024)) := by
  have hi := ix0_0 t
  unfold iblk0
  rw [View.read_apply]
  refine congrArg (V c main_arg1) (Shape.idx_ext₂ ?_ ?_)
  · show win0_0.index t 0 * 512 + 1 * a.val = _; rw [hi.1]; simp <;> omega
  · show win0_0.index t 1 * 1024 + 1 * b.val = _; rw [hi.2]; simp <;> omega

theorem blk0_1 (V : (c : Dev nD) → (b : Ref sig .tc) → Buf (Elt Ideal) ((c : Thread nD τ).loc b)) (c : Dev nD) (t : Fin cfg0.N) (a : Fin 512) (b : Fin 1024) :
    iblk0 V c 1 t (ix2 a b) = V c main_arg2 (ix2 (⟨t.val * 512 + a.val, by have h : t.val < 32 := t.isLt; omega⟩ : Fin 16384) (b : Fin 1024)) := by
  have hi := ix0_1 t
  unfold iblk0
  rw [View.read_apply]
  refine congrArg (V c main_arg2) (Shape.idx_ext₂ ?_ ?_)
  · show win0_1.index t 0 * 512 + 1 * a.val = _; rw [hi.1]; simp <;> omega
  · show win0_1.index t 1 * 1024 + 1 * b.val = _; rw [hi.2]; simp <;> omega

theorem blk0_2 (V : (c : Dev nD) → (b : Ref sig .tc) → Buf (Elt Ideal) ((c : Thread nD τ).loc b)) (c : Dev nD) (t : Fin cfg0.N) (a : Fin 512) (b : Fin 1024) :
    iblk0 V c 2 t (ix2 a b) = V c main_arg6 (ix2 (⟨t.val * 512 + a.val, by have h : t.val < 32 := t.isLt; omega⟩ : Fin 16384) (⟨2048 + b.val, by have h : t.val < 32 := t.isLt; omega⟩ : Fin 3072)) := by
  have hi := ix0_2 t
  unfold iblk0
  rw [View.read_apply]
  refine congrArg (V c main_arg6) (Shape.idx_ext₂ ?_ ?_)
  · show win0_2.index t 0 * 512 + 1 * a.val = _; rw [hi.1]; simp <;> omega
  · show win0_2.index t 1 * 1024 + 1 * b.val = _; rw [hi.2]; simp <;> omega

theorem blk0_3 (V : (c : Dev nD) → (b : Ref sig .tc) → Buf (Elt Ideal) ((c : Thread nD τ).loc b)) (c : Dev nD) (t : Fin cfg0.N) (b : Fin 1024) :
    iblk0 V c 3 t (ix2 0 b) = V c main_v13 (ix2 ((0 : Fin 1) : Fin 1) (b : Fin 1024)) := by
  have hi := ix0_3 t
  unfold iblk0
  rw [View.read_apply]
  refine congrArg (V c main_v13) (Shape.idx_ext₂ ?_ ?_)
  · show win0_3.index t 0 * 1 + 1 * 0 = _; rw [hi.1]; simp <;> omega
  · show win0_3.index t 1 * 1024 + 1 * b.val = _; rw [hi.2]; simp <;> omega

/-- What call 0 leaves in its result, from its operands. -/
def G0 (x0 : S16384x1024.Idx → EReal) (x1 : S16384x1024.Idx → EReal) (x2 : S16384x3072.Idx → EReal) (x3 : S1x1024.Idx → EReal) : S16384x1024.Idx → EReal := fun i =>
  have r : Fin 16384 := i 0
  have j : Fin 1024 := i 1
  (x0 (ix2 r j) + x1 (ix2 r j)) * Ideal.rsqrt (Ideal.div (∑ k : Fin 256, (x0 (ix2 r (⟨j.val / 256 * 256 + k.val, by omega⟩ : Fin 1024)) + x1 (ix2 r (⟨j.val / 256 * 256 + k.val, by omega⟩ : Fin 1024))) * (x0 (ix2 r (⟨j.val / 256 * 256 + k.val, by omega⟩ : Fin 1024)) + x1 (ix2 r (⟨j.val / 256 * 256 + k.val, by omega⟩ : Fin 1024)))) (Ideal.ofBits .f32 0x43800000#32) + Ideal.ofBits .f32 0x358637BD#32) * x3 (ix2 0 j) * Ideal.div 1 (1 + Ideal.exp (0 - x2 (ix2 r (⟨2048 + j.val, by omega⟩ : Fin 3072))))

theorem G0_apply (x0 : S16384x1024.Idx → EReal) (x1 : S16384x1024.Idx → EReal) (x2 : S16384x3072.Idx → EReal) (x3 : S1x1024.Idx → EReal) (r : Fin 16384) (j : Fin 1024) : G0 x0 x1 x2 x3 (ix2 r j) = ((x0 (ix2 r j) + x1 (ix2 r j)) * Ideal.rsqrt (Ideal.div (∑ k : Fin 256, (x0 (ix2 r (⟨j.val / 256 * 256 + k.val, by omega⟩ : Fin 1024)) + x1 (ix2 r (⟨j.val / 256 * 256 + k.val, by omega⟩ : Fin 1024))) * (x0 (ix2 r (⟨j.val / 256 * 256 + k.val, by omega⟩ : Fin 1024)) + x1 (ix2 r (⟨j.val / 256 * 256 + k.val, by omega⟩ : Fin 1024)))) (Ideal.ofBits .f32 0x43800000#32) + Ideal.ofBits .f32 0x358637BD#32) * x3 (ix2 0 j) * Ideal.div 1 (1 + Ideal.exp (0 - x2 (ix2 r (⟨2048 + j.val, by omega⟩ : Fin 3072))))) := rfl

theorem flushed0 (V : (c : Dev nD) → (b : Ref sig .tc) → Buf (Elt Ideal) ((c : Thread nD τ).loc b)) (c : Dev nD) (t : Fin cfg0.N) :
    (dat0 V c).flushed 4 t = ((cfg0.win 4).blk t).view.read (Elt Ideal) (G0 (V c main_arg1) (V c main_arg2) (V c main_arg6) (V c main_v13)) := by
  show (cfg0.win 4).cut (cfg0.grid.coords t) ((dat0 V c).after 4 t) = _
  rw [after0_4]
  unfold out0_4
  rw [View.canon_unit_zero hz2]
  simp only [View.ld_unit_zero (S := S512x1024) hz2, View.ld_unit_zero (S := S1x1024) hz2]
  funext y
  rw [View.read_apply]
  obtain ⟨a, b, rfl⟩ : ∃ (a : Fin 512) (b : Fin 1024), y = ix2 a b := ⟨y 0, y 1, eq_ix2 y⟩
  have hi := ix0_4 t
  have hN : t.val < 32 := t.isLt
  have e : ((View.whole main_v14).slice ((win0 4).rect t)).emb (ix2 a b)
      = (ix2 (⟨t.val * 512 + a.val, by omega⟩ : Fin 16384) (b : Fin 1024) : S16384x1024.Idx) := by
    refine Shape.idx_ext₂ ?_ ?_
    · show win0_4.index t 0 * 512 + 1 * a.val = _; rw [hi.1]; simp
    · show win0_4.index t 1 * 1024 + 1 * b.val = _; rw [hi.2]; simp
  rw [e]
  show (k0_pay1 (F := Ideal) (k0_pay3 (F := Ideal) _ _) (k0_pay4 (F := Ideal) _ _) (k0_pay5 (F := Ideal) _ _) (k0_pay6 (F := Ideal) _ _) (k0_pay7 (F := Ideal) _ _) (k0_pay8 (F := Ideal)) _ _ (ix2 a b) : EReal) = G0 _ _ _ _ _
  pointwise [k0_pay1, k0_pay2, k0_pay3, k0_pay4, k0_pay5, k0_pay6, k0_pay7, k0_pay8]
  simp only [blk0_0, blk0_1, blk0_2, blk0_3]
  rw [G0_apply]
  by_cases h0 : b.val < 256
  · rw [dif_pos h0]
    have e : b.val / 256 = 0 := by omega
    simp only [e, Nat.zero_mul, Nat.zero_add]
  rw [dif_neg h0]
  by_cases h1 : b.val - 256 < 256
  · rw [dif_pos h1]
    have e : b.val / 256 = 1 := by omega
    have e' : 256 + (b.val - 256) = b.val := by omega
    simp only [e, e', Nat.one_mul]
  rw [dif_neg h1]
  by_cases h2 : b.val - 256 - 256 < 256
  · rw [dif_pos h2]
    have e : b.val / 256 = 2 := by omega
    have e' : 512 + (b.val - 256 - 256) = b.val := by omega
    simp only [e, e', Nat.reduceMul]
  · rw [dif_neg h2]
    have e : b.val / 256 = 3 := by omega
    have e' : 768 + (b.val - 256 - 256 - 256) = b.val := by omega
    simp only [e, e', Nat.reduceMul]

theorem final0 (V : (c : Dev nD) → (b : Ref sig .tc) → Buf (Elt Ideal) ((c : Thread nD τ).loc b)) (c : Dev nD) :
    (dat0 V c).arrAt 4 cfg0.N = G0 (V c main_arg1) (V c main_arg2) (V c main_arg6) (V c main_v13) :=
  (dat0 V c).arrAt_eq_of_cover 4 _ (fun t _ => flushed0 V c t) fun i => by
    have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, by show _ < 32; omega⟩, rfl⟩
    have hi := ix0_4 t
    refine ⟨t, flush0_4 t, ?_⟩
    show i ∈ ((View.whole main_v14).slice (win0_4.rect t)).set
    rw [View.set_slice_whole, Rect.mem_set_unit]
    intro x
    match x with
    | ⟨0, _⟩ => show win0_4.index t 0 * 512 ≤ (i 0 : Nat) ∧ (i 0 : Nat) < win0_4.index t 0 * 512 + 512; rw [hi.1]; omega
    | ⟨1, _⟩ => show win0_4.index t 1 * 1024 ≤ (i 1 : Nat) ∧ (i 1 : Nat) < win0_4.index t 1 * 1024 + 1024; rw [hi.2]; omega
theorem ix1_0 : ∀ t : Fin cfg1.N, win1_0.index t 0 = t.val ∧ win1_0.index t 1 = 0 :=
  (by decide +kernel : ∀ t : Fin grid1.N, win1_0.index t 0 = t.val ∧ win1_0.index t 1 = 0)

theorem ix1_1 : ∀ t : Fin cfg1.N, win1_1.index t 0 = t.val ∧ win1_1.index t 1 = 0 :=
  (by decide +kernel : ∀ t : Fin grid1.N, win1_1.index t 0 = t.val ∧ win1_1.index t 1 = 0)

theorem ix1_2 : ∀ t : Fin cfg1.N, win1_2.index t 0 = t.val ∧ win1_2.index t 1 = 2 :=
  (by decide +kernel : ∀ t : Fin grid1.N, win1_2.index t 0 = t.val ∧ win1_2.index t 1 = 2)

theorem ix1_3 : ∀ t : Fin cfg1.N, win1_3.index t 0 = 0 ∧ win1_3.index t 1 = 0 :=
  (by decide +kernel : ∀ t : Fin grid1.N, win1_3.index t 0 = 0 ∧ win1_3.index t 1 = 0)

theorem ix1_4 : ∀ t : Fin cfg1.N, win1_4.index t 0 = t.val ∧ win1_4.index t 1 = 0 :=
  (by decide +kernel : ∀ t : Fin grid1.N, win1_4.index t 0 = t.val ∧ win1_4.index t 1 = 0)

theorem blk1_0 (V : (c : Dev nD) → (b : Ref sig .tc) → Buf (Elt Ideal) ((c : Thread nD τ).loc b)) (c : Dev nD) (t : Fin cfg1.N) (a : Fin 512) (b : Fin 1024) :
    iblk1 V c 0 t (ix2 a b) = V c main_arg3 (ix2 (⟨t.val * 512 + a.val, by have h : t.val < 32 := t.isLt; omega⟩ : Fin 16384) (b : Fin 1024)) := by
  have hi := ix1_0 t
  unfold iblk1
  rw [View.read_apply]
  refine congrArg (V c main_arg3) (Shape.idx_ext₂ ?_ ?_)
  · show win1_0.index t 0 * 512 + 1 * a.val = _; rw [hi.1]; simp <;> omega
  · show win1_0.index t 1 * 1024 + 1 * b.val = _; rw [hi.2]; simp <;> omega

theorem blk1_1 (V : (c : Dev nD) → (b : Ref sig .tc) → Buf (Elt Ideal) ((c : Thread nD τ).loc b)) (c : Dev nD) (t : Fin cfg1.N) (a : Fin 512) (b : Fin 1024) :
    iblk1 V c 1 t (ix2 a b) = V c main_arg4 (ix2 (⟨t.val * 512 + a.val, by have h : t.val < 32 := t.isLt; omega⟩ : Fin 16384) (b : Fin 1024)) := by
  have hi := ix1_1 t
  unfold iblk1
  rw [View.read_apply]
  refine congrArg (V c main_arg4) (Shape.idx_ext₂ ?_ ?_)
  · show win1_1.index t 0 * 512 + 1 * a.val = _; rw [hi.1]; simp <;> omega
  · show win1_1.index t 1 * 1024 + 1 * b.val = _; rw [hi.2]; simp <;> omega

theorem blk1_2 (V : (c : Dev nD) → (b : Ref sig .tc) → Buf (Elt Ideal) ((c : Thread nD τ).loc b)) (c : Dev nD) (t : Fin cfg1.N) (a : Fin 512) (b : Fin 1024) :
    iblk1 V c 2 t (ix2 a b) = V c main_arg7 (ix2 (⟨t.val * 512 + a.val, by have h : t.val < 32 := t.isLt; omega⟩ : Fin 16384) (⟨2048 + b.val, by have h : t.val < 32 := t.isLt; omega⟩ : Fin 3072)) := by
  have hi := ix1_2 t
  unfold iblk1
  rw [View.read_apply]
  refine congrArg (V c main_arg7) (Shape.idx_ext₂ ?_ ?_)
  · show win1_2.index t 0 * 512 + 1 * a.val = _; rw [hi.1]; simp <;> omega
  · show win1_2.index t 1 * 1024 + 1 * b.val = _; rw [hi.2]; simp <;> omega

theorem blk1_3 (V : (c : Dev nD) → (b : Ref sig .tc) → Buf (Elt Ideal) ((c : Thread nD τ).loc b)) (c : Dev nD) (t : Fin cfg1.N) (b : Fin 1024) :
    iblk1 V c 3 t (ix2 0 b) = V c main_v17 (ix2 ((0 : Fin 1) : Fin 1) (b : Fin 1024)) := by
  have hi := ix1_3 t
  unfold iblk1
  rw [View.read_apply]
  refine congrArg (V c main_v17) (Shape.idx_ext₂ ?_ ?_)
  · show win1_3.index t 0 * 1 + 1 * 0 = _; rw [hi.1]; simp <;> omega
  · show win1_3.index t 1 * 1024 + 1 * b.val = _; rw [hi.2]; simp <;> omega

/-- What call 1 leaves in its result, from its operands. -/
def G1 (x0 : S16384x1024.Idx → EReal) (x1 : S16384x1024.Idx → EReal) (x2 : S16384x3072.Idx → EReal) (x3 : S1x1024.Idx → EReal) : S16384x1024.Idx → EReal := fun i =>
  have r : Fin 16384 := i 0
  have j : Fin 1024 := i 1
  (x0 (ix2 r j) + x1 (ix2 r j)) * Ideal.rsqrt (Ideal.div (∑ k : Fin 256, (x0 (ix2 r (⟨j.val / 256 * 256 + k.val, by omega⟩ : Fin 1024)) + x1 (ix2 r (⟨j.val / 256 * 256 + k.val, by omega⟩ : Fin 1024))) * (x0 (ix2 r (⟨j.val / 256 * 256 + k.val, by omega⟩ : Fin 1024)) + x1 (ix2 r (⟨j.val / 256 * 256 + k.val, by omega⟩ : Fin 1024)))) (Ideal.ofBits .f32 0x43800000#32) + Ideal.ofBits .f32 0x358637BD#32) * x3 (ix2 0 j) * (x2 (ix2 r (⟨2048 + j.val, by omega⟩ : Fin 3072)) * Ideal.div 1 (1 + Ideal.exp (0 - x2 (ix2 r (⟨2048 + j.val, by omega⟩ : Fin 3072)))))

theorem G1_apply (x0 : S16384x1024.Idx → EReal) (x1 : S16384x1024.Idx → EReal) (x2 : S16384x3072.Idx → EReal) (x3 : S1x1024.Idx → EReal) (r : Fin 16384) (j : Fin 1024) : G1 x0 x1 x2 x3 (ix2 r j) = ((x0 (ix2 r j) + x1 (ix2 r j)) * Ideal.rsqrt (Ideal.div (∑ k : Fin 256, (x0 (ix2 r (⟨j.val / 256 * 256 + k.val, by omega⟩ : Fin 1024)) + x1 (ix2 r (⟨j.val / 256 * 256 + k.val, by omega⟩ : Fin 1024))) * (x0 (ix2 r (⟨j.val / 256 * 256 + k.val, by omega⟩ : Fin 1024)) + x1 (ix2 r (⟨j.val / 256 * 256 + k.val, by omega⟩ : Fin 1024)))) (Ideal.ofBits .f32 0x43800000#32) + Ideal.ofBits .f32 0x358637BD#32) * x3 (ix2 0 j) * (x2 (ix2 r (⟨2048 + j.val, by omega⟩ : Fin 3072)) * Ideal.div 1 (1 + Ideal.exp (0 - x2 (ix2 r (⟨2048 + j.val, by omega⟩ : Fin 3072)))))) := rfl

theorem flushed1 (V : (c : Dev nD) → (b : Ref sig .tc) → Buf (Elt Ideal) ((c : Thread nD τ).loc b)) (c : Dev nD) (t : Fin cfg1.N) :
    (dat1 V c).flushed 4 t = ((cfg1.win 4).blk t).view.read (Elt Ideal) (G1 (V c main_arg3) (V c main_arg4) (V c main_arg7) (V c main_v17)) := by
  show (cfg1.win 4).cut (cfg1.grid.coords t) ((dat1 V c).after 4 t) = _
  rw [after1_4]
  unfold out1_4
  rw [View.canon_unit_zero hz2]
  simp only [View.ld_unit_zero (S := S512x1024) hz2, View.ld_unit_zero (S := S1x1024) hz2]
  funext y
  rw [View.read_apply]
  obtain ⟨a, b, rfl⟩ : ∃ (a : Fin 512) (b : Fin 1024), y = ix2 a b := ⟨y 0, y 1, eq_ix2 y⟩
  have hi := ix1_4 t
  have hN : t.val < 32 := t.isLt
  have e : ((View.whole main_v18).slice ((win1 4).rect t)).emb (ix2 a b)
      = (ix2 (⟨t.val * 512 + a.val, by omega⟩ : Fin 16384) (b : Fin 1024) : S16384x1024.Idx) := by
    refine Shape.idx_ext₂ ?_ ?_
    · show win1_4.index t 0 * 512 + 1 * a.val = _; rw [hi.1]; simp
    · show win1_4.index t 1 * 1024 + 1 * b.val = _; rw [hi.2]; simp
  rw [e]
  show (k1_pay1 (F := Ideal) (k1_pay3 (F := Ideal) _ _) (k1_pay4 (F := Ideal) _ _) (k1_pay5 (F := Ideal) _ _) (k1_pay6 (F := Ideal) _ _) (k1_pay7 (F := Ideal) _ _) (k1_pay8 (F := Ideal)) _ _ (ix2 a b) : EReal) = G1 _ _ _ _ _
  pointwise [k1_pay1, k1_pay2, k1_pay3, k1_pay4, k1_pay5, k1_pay6, k1_pay7, k1_pay8]
  simp only [blk1_0, blk1_1, blk1_2, blk1_3]
  rw [G1_apply]
  by_cases h0 : b.val < 256
  · rw [dif_pos h0]
    have e : b.val / 256 = 0 := by omega
    simp only [e, Nat.zero_mul, Nat.zero_add]
  rw [dif_neg h0]
  by_cases h1 : b.val - 256 < 256
  · rw [dif_pos h1]
    have e : b.val / 256 = 1 := by omega
    have e' : 256 + (b.val - 256) = b.val := by omega
    simp only [e, e', Nat.one_mul]
  rw [dif_neg h1]
  by_cases h2 : b.val - 256 - 256 < 256
  · rw [dif_pos h2]
    have e : b.val / 256 = 2 := by omega
    have e' : 512 + (b.val - 256 - 256) = b.val := by omega
    simp only [e, e', Nat.reduceMul]
  · rw [dif_neg h2]
    have e : b.val / 256 = 3 := by omega
    have e' : 768 + (b.val - 256 - 256 - 256) = b.val := by omega
    simp only [e, e', Nat.reduceMul]

theorem final1 (V : (c : Dev nD) → (b : Ref sig .tc) → Buf (Elt Ideal) ((c : Thread nD τ).loc b)) (c : Dev nD) :
    (dat1 V c).arrAt 4 cfg1.N = G1 (V c main_arg3) (V c main_arg4) (V c main_arg7) (V c main_v17) :=
  (dat1 V c).arrAt_eq_of_cover 4 _ (fun t _ => flushed1 V c t) fun i => by
    have h0 : (i 0 : Nat) < 16384 := (i 0).isLt
    have h1 : (i 1 : Nat) < 1024 := (i 1).isLt
    obtain ⟨t, ht⟩ : ∃ t : Fin cfg1.N, t.val = (i 0 : Nat) / 512 := ⟨⟨(i 0 : Nat) / 512, by show _ < 32; omega⟩, rfl⟩
    have hi := ix1_4 t
    refine ⟨t, flush1_4 t, ?_⟩
    show i ∈ ((View.whole main_v18).slice (win1_4.rect t)).set
    rw [View.set_slice_whole, Rect.mem_set_unit]
    intro x
    match x with
    | ⟨0, _⟩ => show win1_4.index t 0 * 512 ≤ (i 0 : Nat) ∧ (i 0 : Nat) < win1_4.index t 0 * 512 + 512; rw [hi.1]; omega
    | ⟨1, _⟩ => show win1_4.index t 1 * 1024 ≤ (i 1 : Nat) ∧ (i 1 : Nat) < win1_4.index t 1 * 1024 + 1024; rw [hi.2]; omega

end Cert.Kernel2Ideal.Hand

end
-- ==== Proof.Merge.lean ====
module

public import proofs.«01_k».proof.Proof.Gen.Kernel2Ideal.Frame.Region2
public import proofs.«01_k».proof.Proof.Zero
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem ix2_0 : ∀ t : Fin cfg2.N, win2_0.index t 0 = t.val / 4 ∧ win2_0.index t 1 = 0 :=
  (by decide +kernel : ∀ t : Fin grid2.N, win2_0.index t 0 = t.val / 4 ∧ win2_0.index t 1 = 0)

theorem ix2_1 : ∀ t : Fin cfg2.N, win2_1.index t 0 = t.val / 4 ∧ win2_1.index t 1 = 0 :=
  (by decide +kernel : ∀ t : Fin grid2.N, win2_1.index t 0 = t.val / 4 ∧ win2_1.index t 1 = 0)

theorem ix2_2 : ∀ t : Fin cfg2.N, win2_2.index t 0 = t.val / 4 ∧ win2_2.index t 1 = 0 :=
  (by decide +kernel : ∀ t : Fin grid2.N, win2_2.index t 0 = t.val / 4 ∧ win2_2.index t 1 = 0)

theorem ix2_3 : ∀ t : Fin cfg2.N, win2_3.index t 0 = t.val / 4 ∧ win2_3.index t 1 = 3 + t.val % 4 :=
  (by decide +kernel : ∀ t : Fin grid2.N, win2_3.index t 0 = t.val / 4 ∧ win2_3.index t 1 = 3 + t.val % 4)

theorem ix2_4 : ∀ t : Fin cfg2.N, win2_4.index t 0 = t.val / 4 ∧ win2_4.index t 1 = 7 + t.val % 4 :=
  (by decide +kernel : ∀ t : Fin grid2.N, win2_4.index t 0 = t.val / 4 ∧ win2_4.index t 1 = 7 + t.val % 4)

theorem ix2_5 : ∀ t : Fin cfg2.N, win2_5.index t 0 = t.val / 4 ∧ win2_5.index t 1 = 11 + t.val % 4 :=
  (by decide +kernel : ∀ t : Fin grid2.N, win2_5.index t 0 = t.val / 4 ∧ win2_5.index t 1 = 11 + t.val % 4)

theorem ix2_6 : ∀ t : Fin cfg2.N, win2_6.index t 0 = 1 ∧ win2_6.index t 1 = 0 ∧ win2_6.index t 2 = 0 ∧ win2_6.index t 3 = t.val % 4 :=
  (by decide +kernel : ∀ t : Fin grid2.N, win2_6.index t 0 = 1 ∧ win2_6.index t 1 = 0 ∧ win2_6.index t 2 = 0 ∧ win2_6.index t 3 = t.val % 4)

theorem ix2_7 : ∀ t : Fin cfg2.N, win2_7.index t 0 = t.val / 4 ∧ win2_7.index t 1 = t.val % 4 :=
  (by decide +kernel : ∀ t : Fin grid2.N, win2_7.index t 0 = t.val / 4 ∧ win2_7.index t 1 = t.val % 4)

theorem blk2_0 (V : (c : Dev nD) → (b : Ref sig .tc) → Buf (Elt Ideal) ((c : Thread nD τ).loc b)) (c : Dev nD) (t : Fin cfg2.N) (a : Fin 1024) (b : Fin 1024) :
    iblk2 V c 0 t (ix2 a b) = V c main_v14 (ix2 (⟨t.val / 4 * 1024 + a.val, by have h : t.val < 64 := t.isLt; omega⟩ : Fin 16384) (b : Fin 1024)) := by
  have hi := ix2_0 t
  unfold iblk2
  rw [View.read_apply]
  refine congrArg (V c main_v14) (Shape.idx_ext₂ ?_ ?_)
  · show win2_0.index t 0 * 1024 + 1 * a.val = _; rw [hi.1]; simp <;> omega
  · show win2_0.index t 1 * 1024 + 1 * b.val = _; rw [hi.2]; simp <;> omega

theorem blk2_1 (V : (c : Dev nD) → (b : Ref sig .tc) → Buf (Elt Ideal) ((c : Thread nD τ).loc b)) (c : Dev nD) (t : Fin cfg2.N) (a : Fin 1024) (b : Fin 1024) :
    iblk2 V c 1 t (ix2 a b) = V c main_v18 (ix2 (⟨t.val / 4 * 1024 + a.val, by have h : t.val < 64 := t.isLt; omega⟩ : Fin 16384) (b : Fin 1024)) := by
  have hi := ix2_1 t
  unfold iblk2
  rw [View.read_apply]
  refine congrArg (V c main_v18) (Shape.idx_ext₂ ?_ ?_)
  · show win2_1.index t 0 * 1024 + 1 * a.val = _; rw [hi.1]; simp <;> omega
  · show win2_1.index t 1 * 1024 + 1 * b.val = _; rw [hi.2]; simp <;> omega

theorem blk2_2 (V : (c : Dev nD) → (b : Ref sig .tc) → Buf (Elt Ideal) ((c : Thread nD τ).loc b)) (c : Dev nD) (t : Fin cfg2.N) (a : Fin 1024) (b : Fin 1024) :
    iblk2 V c 2 t (ix2 a b) = V c main_arg5 (ix2 (⟨t.val / 4 * 1024 + a.val, by have h : t.val < 64 := t.isLt; omega⟩ : Fin 16384) (b : Fin 1024)) := by
  have hi := ix2_2 t
  unfold iblk2
  rw [View.read_apply]
  refine congrArg (V c main_arg5) (Shape.idx_ext₂ ?_ ?_)
  · show win2_2.index t 0 * 1024 + 1 * a.val = _; rw [hi.1]; simp <;> omega
  · show win2_2.index t 1 * 1024 + 1 * b.val = _; rw [hi.2]; simp <;> omega

theorem blk2_3 (V : (c : Dev nD) → (b : Ref sig .tc) → Buf (Elt Ideal) ((c : Thread nD τ).loc b)) (c : Dev nD) (t : Fin cfg2.N) (a : Fin 1024) (b : Fin 1024) :
    iblk2 V c 3 t (ix2 a b) = V c main_arg8 (ix2 (⟨t.val / 4 * 1024 + a.val, by have h : t.val < 64 := t.isLt; omega⟩ : Fin 16384) (⟨3072 + (t.val % 4 * 1024 + b.val), by have h : t.val < 64 := t.isLt; omega⟩ : Fin 15360)) := by
  have hi := ix2_3 t
  unfold iblk2
  rw [View.read_apply]
  refine congrArg (V c main_arg8) (Shape.idx_ext₂ ?_ ?_)
  · show win2_3.index t 0 * 1024 + 1 * a.val = _; rw [hi.1]; simp <;> omega
  · show win2_3.index t 1 * 1024 + 1 * b.val = _; rw [hi.2]; simp <;> omega

theorem blk2_4 (V : (c : Dev nD) → (b : Ref sig .tc) → Buf (Elt Ideal) ((c : Thread nD τ).loc b)) (c : Dev nD) (t : Fin cfg2.N) (a : Fin 1024) (b : Fin 1024) :
    iblk2 V c 4 t (ix2 a b) = V c main_arg8 (ix2 (⟨t.val / 4 * 1024 + a.val, by have h : t.val < 64 := t.isLt; omega⟩ : Fin 16384) (⟨7168 + (t.val % 4 * 1024 + b.val), by have h : t.val < 64 := t.isLt; omega⟩ : Fin 15360)) := by
  have hi := ix2_4 t
  unfold iblk2
  rw [View.read_apply]
  refine congrArg (V c main_arg8) (Shape.idx_ext₂ ?_ ?_)
  · show win2_4.index t 0 * 1024 + 1 * a.val = _; rw [hi.1]; simp <;> omega
  · show win2_4.index t 1 * 1024 + 1 * b.val = _; rw [hi.2]; simp <;> omega

theorem blk2_5 (V : (c : Dev nD) → (b : Ref sig .tc) → Buf (Elt Ideal) ((c : Thread nD τ).loc b)) (c : Dev nD) (t : Fin cfg2.N) (a : Fin 1024) (b : Fin 1024) :
    iblk2 V c 5 t (ix2 a b) = V c main_arg8 (ix2 (⟨t.val / 4 * 1024 + a.val, by have h : t.val < 64 := t.isLt; omega⟩ : Fin 16384) (⟨11264 + (t.val % 4 * 1024 + b.val), by have h : t.val < 64 := t.isLt; omega⟩ : Fin 15360)) := by
  have hi := ix2_5 t
  unfold iblk2
  rw [View.read_apply]
  refine congrArg (V c main_arg8) (Shape.idx_ext₂ ?_ ?_)
  · show win2_5.index t 0 * 1024 + 1 * a.val = _; rw [hi.1]; simp <;> omega
  · show win2_5.index t 1 * 1024 + 1 * b.val = _; rw [hi.2]; simp <;> omega

theorem blk2_6 (V : (c : Dev nD) → (b : Ref sig .tc) → Buf (Elt Ideal) ((c : Thread nD τ).loc b)) (c : Dev nD) (t : Fin cfg2.N) (b : Fin 3) (d : Fin 1024) (e : Fin 1024) :
    iblk2 V c 6 t (ix4 0 b d e) = V c main_v0 (ix4 ((1 : Fin 2) : Fin 2) (b : Fin 3) (d : Fin 1024) (⟨t.val % 4 * 1024 + e.val, by have h : t.val < 64 := t.isLt; omega⟩ : Fin 4096)) := by
  have hi := ix2_6 t
  unfold iblk2
  rw [View.read_apply]
  refine congrArg (V c main_v0) (idx_ext4 ?_ ?_ ?_ ?_)
  · show win2_6.index t 0 * 1 + 1 * 0 = _; rw [hi.1]; simp <;> omega
  · show win2_6.index t 1 * 3 + 1 * b.val = _; rw [hi.2.1]; simp <;> omega
  · show win2_6.index t 2 * 1024 + 1 * d.val = _; rw [hi.2.2.1]; simp <;> omega
  · show win2_6.index t 3 * 1024 + 1 * e.val = _; rw [hi.2.2.2]; simp <;> omega

/-- What call 2 leaves in its result, from its operands. -/
def G2 (x0 : S16384x1024.Idx → EReal) (x1 : S16384x1024.Idx → EReal) (x2 : S16384x1024.Idx → EReal) (x3 : S16384x15360.Idx → EReal) (x4 : S16384x15360.Idx → EReal) (x5 : S16384x15360.Idx → EReal) (x6 : S2x3x1024x4096.Idx → EReal) : S16384x4096.Idx → EReal := fun i =>
  have r : Fin 16384 := i 0
  have j : Fin 4096 := i 1
  (Ideal.div 1 (1 + Ideal.exp (0 - x3 (ix2 r (⟨3072 + j.val, by omega⟩ : Fin 15360)))) * (∑ k : Fin 1024, x0 (ix2 r k) * x6 (ix4 1 0 k j)) + Ideal.div 1 (1 + Ideal.exp (0 - x4 (ix2 r (⟨7168 + j.val, by omega⟩ : Fin 15360)))) * (∑ k : Fin 1024, x1 (ix2 r k) * x6 (ix4 1 1 k j))) + Ideal.div 1 (1 + Ideal.exp (0 - x5 (ix2 r (⟨11264 + j.val, by omega⟩ : Fin 15360)))) * (∑ k : Fin 1024, x2 (ix2 r k) * x6 (ix4 1 2 k j))

theorem G2_apply (x0 : S16384x1024.Idx → EReal) (x1 : S16384x1024.Idx → EReal) (x2 : S16384x1024.Idx → EReal) (x3 : S16384x15360.Idx → EReal) (x4 : S16384x15360.Idx → EReal) (x5 : S16384x15360.Idx → EReal) (x6 : S2x3x1024x4096.Idx → EReal) (r : Fin 16384) (j : Fin 4096) : G2 x0 x1 x2 x3 x4 x5 x6 (ix2 r j) = ((Ideal.div 1 (1 + Ideal.exp (0 - x3 (ix2 r (⟨3072 + j.val, by omega⟩ : Fin 15360)))) * (∑ k : Fin 1024, x0 (ix2 r k) * x6 (ix4 1 0 k j)) + Ideal.div 1 (1 + Ideal.exp (0 - x4 (ix2 r (⟨7168 + j.val, by omega⟩ : Fin 15360)))) * (∑ k : Fin 1024, x1 (ix2 r k) * x6 (ix4 1 1 k j))) + Ideal.div 1 (1 + Ideal.exp (0 - x5 (ix2 r (⟨11264 + j.val, by omega⟩ : Fin 15360)))) * (∑ k : Fin 1024, x2 (ix2 r k) * x6 (ix4 1 2 k j))) := rfl

theorem flushed2 (V : (c : Dev nD) → (b : Ref sig .tc) → Buf (Elt Ideal) ((c : Thread nD τ).loc b)) (c : Dev nD) (t : Fin cfg2.N) :
    (dat2 V c).flushed 7 t = ((cfg2.win 7).blk t).view.read (Elt Ideal) (G2 (V c main_v14) (V c main_v18) (V c main_arg5) (V c main_arg8) (V c main_arg8) (V c main_arg8) (V c main_v0)) := by
  show (cfg2.win 7).cut (cfg2.grid.coords t) ((dat2 V c).after 7 t) = _
  rw [after2_7]
  unfold out2_7
  rw [View.canon_unit_zero hz2]
  simp only [View.ld_unit_zero (S := S1024x1024) hz2]
  funext y
  rw [View.read_apply]
  obtain ⟨a, b, rfl⟩ : ∃ (a : Fin 1024) (b : Fin 1024), y = ix2 a b := ⟨y 0, y 1, eq_ix2 y⟩
  have hi := ix2_7 t
  have hN : t.val < 64 := t.isLt
  have e : ((View.whole main_v19).slice ((win2 7).rect t)).emb (ix2 a b)
      = (ix2 (⟨t.val / 4 * 1024 + a.val, by omega⟩ : Fin 16384) (⟨t.val % 4 * 1024 + b.val, by omega⟩ : Fin 4096) : S16384x4096.Idx) := by
    refine Shape.idx_ext₂ ?_ ?_
    · show win2_7.index t 0 * 1024 + 1 * a.val = _; rw [hi.1]; simp
    · show win2_7.index t 1 * 1024 + 1 * b.val = _; rw [hi.2]; simp
  rw [e]
  show (k2_pay1 (F := Ideal) (k2_pay2 (F := Ideal) _ _ (View.ld _ r2_1) _ _ (View.ld _ r2_2)) _ _ (View.ld _ r2_3) (ix2 a b) : EReal) = G2 _ _ _ _ _ _ _ _
  pointwise [k2_pay1, k2_pay2]
  simp only [blk2_0, blk2_1, blk2_2, blk2_3, blk2_4, blk2_5, blk2_6]
  rfl

theorem final2 (V : (c : Dev nD) → (b : Ref sig .tc) → Buf (Elt Ideal) ((c : Thread nD τ).loc b)) (c : Dev nD) :
    (dat2 V c).arrAt 7 cfg2.N = G2 (V c main_v14) (V c main_v18) (V c main_arg5) (V c main_arg8) (V c main_arg8) (V c main_arg8) (V c main_v0) :=
  (dat2 V c).arrAt_eq_of_cover 7 _ (fun t _ => flushed2 V c t) fun i => by
    have h0 : (i 0 : Nat) < 16384 := (i 0).isLt
    have h1 : (i 1 : Nat) < 4096 := (i 1).isLt
    obtain ⟨t, ht⟩ : ∃ t : Fin cfg2.N, t.val = (i 0 : Nat) / 1024 * 4 + (i 1 : Nat) / 1024 := ⟨⟨(i 0 : Nat) / 1024 * 4 + (i 1 : Nat) / 1024, by show _ < 64; omega⟩, rfl⟩
    have hi := ix2_7 t
    refine ⟨t, flush2_7 t, ?_⟩
    show i ∈ ((View.whole main_v19).slice (win2_7.rect t)).set
    rw [View.set_slice_whole, Rect.mem_set_unit]
    intro x
    match x with
    | ⟨0, _⟩ => show win2_7.index t 0 * 1024 ≤ (i 0 : Nat) ∧ (i 0 : Nat) < win2_7.index t 0 * 1024 + 1024; rw [hi.1]; omega
    | ⟨1, _⟩ => show win2_7.index t 1 * 1024 ≤ (i 1 : Nat) ∧ (i 1 : Nat) < win2_7.index t 1 * 1024 + 1024; rw [hi.2]; omega

end Cert.Kernel2Ideal.Hand

end
-- ==== Proof.Projections.lean ====
module

public import proofs.«01_k».proof.Proof.Gen.Kernel2Ideal.Frame.Region3
public import proofs.«01_k».proof.Proof.Gen.Kernel2Ideal.Frame.Region6
public import proofs.«01_k».proof.Proof.Gen.Kernel2Ideal.Frame.Region7
public import proofs.«01_k».proof.Proof.Gen.Kernel2Ideal.Frame.Region9
public import proofs.«01_k».proof.Proof.Gen.Kernel2Ideal.Frame.Region11
public import proofs.«01_k».proof.Proof.Gen.Kernel2Ideal.Frame.Region12
public import proofs.«01_k».proof.Proof.Zero
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem ix3_0 : ∀ t : Fin cfg3.N, win3_0.index t 0 = t.val / 4 ∧ win3_0.index t 1 = 0 :=
  (by decide +kernel : ∀ t : Fin grid3.N, win3_0.index t 0 = t.val / 4 ∧ win3_0.index t 1 = 0)

theorem ix3_1 : ∀ t : Fin cfg3.N, win3_1.index t 0 = 1 ∧ win3_1.index t 1 = 0 ∧ win3_1.index t 2 = t.val % 4 :=
  (by decide +kernel : ∀ t : Fin grid3.N, win3_1.index t 0 = 1 ∧ win3_1.index t 1 = 0 ∧ win3_1.index t 2 = t.val % 4)

theorem ix3_2 : ∀ t : Fin cfg3.N, win3_2.index t 0 = t.val / 4 ∧ win3_2.index t 1 = t.val % 4 :=
  (by decide +kernel : ∀ t : Fin grid3.N, win3_2.index t 0 = t.val / 4 ∧ win3_2.index t 1 = t.val % 4)

theorem ix3_3 : ∀ t : Fin cfg3.N, win3_3.index t 0 = t.val / 4 ∧ win3_3.index t 1 = t.val % 4 :=
  (by decide +kernel : ∀ t : Fin grid3.N, win3_3.index t 0 = t.val / 4 ∧ win3_3.index t 1 = t.val % 4)

theorem blk3_0 (V : (c : Dev nD) → (b : Ref sig .tc) → Buf (Elt Ideal) ((c : Thread nD τ).loc b)) (c : Dev nD) (t : Fin cfg3.N) (a : Fin 1024) (b : Fin 4096) :
    iblk3 V c 0 t (ix2 a b) = V c main_v19 (ix2 (⟨t.val / 4 * 1024 + a.val, by have h : t.val < 64 := t.isLt; omega⟩ : Fin 16384) (b : Fin 4096)) := by
  have hi := ix3_0 t
  unfold iblk3
  rw [View.read_apply]
  refine congrArg (V c main_v19) (Shape.idx_ext₂ ?_ ?_)
  · show win3_0.index t 0 * 1024 + 1 * a.val = _; rw [hi.1]; simp <;> omega
  · show win3_0.index t 1 * 4096 + 1 * b.val = _; rw [hi.2]; simp <;> omega

theorem blk3_1 (V : (c : Dev nD) → (b : Ref sig .tc) → Buf (Elt Ideal) ((c : Thread nD τ).loc b)) (c : Dev nD) (t : Fin cfg3.N) (b : Fin 4096) (d : Fin 1024) :
    iblk3 V c 1 t (ix3 0 b d) = V c main_v1 (ix3 ((1 : Fin 2) : Fin 2) (b : Fin 4096) (⟨t.val % 4 * 1024 + d.val, by have h : t.val < 64 := t.isLt; omega⟩ : Fin 4096)) := by
  have hi := ix3_1 t
  unfold iblk3
  rw [View.read_apply]
  refine congrArg (V c main_v1) (funext fun x => Fin.ext ?_)
  match x with
  | ⟨0, _⟩ => show win3_1.index t 0 * 1 + 1 * 0 = _; rw [hi.1]; simp <;> omega
  | ⟨1, _⟩ => show win3_1.index t 1 * 4096 + 1 * b.val = _; rw [hi.2.1]; simp <;> omega
  | ⟨2, _⟩ => show win3_1.index t 2 * 1024 + 1 * d.val = _; rw [hi.2.2]; simp <;> omega

theorem blk3_2 (V : (c : Dev nD) → (b : Ref sig .tc) → Buf (Elt Ideal) ((c : Thread nD τ).loc b)) (c : Dev nD) (t : Fin cfg3.N) (a : Fin 1024) (b : Fin 1024) :
    iblk3 V c 2 t (ix2 a b) = V c main_v7 (ix2 (⟨t.val / 4 * 1024 + a.val, by have h : t.val < 64 := t.isLt; omega⟩ : Fin 16384) (⟨t.val % 4 * 1024 + b.val, by have h : t.val < 64 := t.isLt; omega⟩ : Fin 4096)) := by
  have hi := ix3_2 t
  unfold iblk3
  rw [View.read_apply]
  refine congrArg (V c main_v7) (Shape.idx_ext₂ ?_ ?_)
  · show win3_2.index t 0 * 1024 + 1 * a.val = _; rw [hi.1]; simp <;> omega
  · show win3_2.index t 1 * 1024 + 1 * b.val = _; rw [hi.2]; simp <;> omega

/-- What call 3 leaves in its result, from its operands. -/
def G3 (x0 : S16384x4096.Idx → EReal) (x1 : S2x4096x4096.Idx → EReal) (x2 : S16384x4096.Idx → EReal) : S16384x4096.Idx → EReal := fun i =>
  have r : Fin 16384 := i 0
  have j : Fin 4096 := i 1
  (∑ k : Fin 4096, x0 (ix2 r k) * x1 (ix3 1 k j)) + x2 (ix2 r j)

theorem flushed3 (V : (c : Dev nD) → (b : Ref sig .tc) → Buf (Elt Ideal) ((c : Thread nD τ).loc b)) (c : Dev nD) (t : Fin cfg3.N) :
    (dat3 V c).flushed 3 t = ((cfg3.win 3).blk t).view.read (Elt Ideal) (G3 (V c main_v19) (V c main_v1) (V c main_v7)) := by
  show (cfg3.win 3).cut (cfg3.grid.coords t) ((dat3 V c).after 3 t) = _
  rw [after3_3]
  unfold out3_3
  rw [View.canon_unit_zero hz2]
  simp only [View.ld_unit_zero (S := S1024x4096) hz2, View.ld_unit_zero (S := S1x4096x1024) hz3, View.ld_unit_zero (S := S1024x1024) hz2]
  funext y
  rw [View.read_apply]
  obtain ⟨a, b, rfl⟩ : ∃ (a : Fin 1024) (b : Fin 1024), y = ix2 a b := ⟨y 0, y 1, eq_ix2 y⟩
  have hi := ix3_3 t
  have hN : t.val < 64 := t.isLt
  have e : ((View.whole main_v20).slice ((win3 3).rect t)).emb (ix2 a b)
      = (ix2 (⟨t.val / 4 * 1024 + a.val, by omega⟩ : Fin 16384) (⟨t.val % 4 * 1024 + b.val, by omega⟩ : Fin 4096) : S16384x4096.Idx) := by
    refine Shape.idx_ext₂ ?_ ?_
    · show win3_3.index t 0 * 1024 + 1 * a.val = _; rw [hi.1]; simp
    · show win3_3.index t 1 * 1024 + 1 * b.val = _; rw [hi.2]; simp
  rw [e]
  show (k3_pay1 (F := Ideal) _ _ _  (ix2 a b) : EReal) = G3 _ _ _ _
  pointwise [k3_pay1]
  simp only [blk3_0, blk3_1, blk3_2]
  rfl

theorem final3 (V : (c : Dev nD) → (b : Ref sig .tc) → Buf (Elt Ideal) ((c : Thread nD τ).loc b)) (c : Dev nD) :
    (dat3 V c).arrAt 3 cfg3.N = G3 (V c main_v19) (V c main_v1) (V c main_v7) :=
  (dat3 V c).arrAt_eq_of_cover 3 _ (fun t _ => flushed3 V c t) fun i => by
    have h0 : (i 0 : Nat) < 16384 := (i 0).isLt
    have h1 : (i 1 : Nat) < 4096 := (i 1).isLt
    obtain ⟨t, ht⟩ : ∃ t : Fin cfg3.N, t.val = (i 0 : Nat) / 1024 * 4 + (i 1 : Nat) / 1024 := ⟨⟨(i 0 : Nat) / 1024 * 4 + (i 1 : Nat) / 1024, by show _ < 64; omega⟩, rfl⟩
    have hi := ix3_3 t
    refine ⟨t, flush3_3 t, ?_⟩
    show i ∈ ((View.whole main_v20).slice (win3_3.rect t)).set
    rw [View.set_slice_whole, Rect.mem_set_unit]
    intro x
    match x with
    | ⟨0, _⟩ => show win3_3.index t 0 * 1024 ≤ (i 0 : Nat) ∧ (i 0 : Nat) < win3_3.index t 0 * 1024 + 1024; rw [hi.1]; omega
    | ⟨1, _⟩ => show win3_3.index t 1 * 1024 ≤ (i 1 : Nat) ∧ (i 1 : Nat) < win3_3.index t 1 * 1024 + 1024; rw [hi.2]; omega
theorem ix6_0 : ∀ t : Fin cfg6.N, win6_0.index t 0 = t.val / 4 ∧ win6_0.index t 1 = 0 :=
  (by decide +kernel : ∀ t : Fin grid6.N, win6_0.index t 0 = t.val / 4 ∧ win6_0.index t 1 = 0)

theorem ix6_1 : ∀ t : Fin cfg6.N, win6_1.index t 0 = 1 ∧ win6_1.index t 1 = 0 ∧ win6_1.index t 2 = t.val % 4 :=
  (by decide +kernel : ∀ t : Fin grid6.N, win6_1.index t 0 = 1 ∧ win6_1.index t 1 = 0 ∧ win6_1.index t 2 = t.val % 4)

theorem ix6_2 : ∀ t : Fin cfg6.N, win6_2.index t 0 = t.val / 4 ∧ win6_2.index t 1 = t.val % 4 :=
  (by decide +kernel : ∀ t : Fin grid6.N, win6_2.index t 0 = t.val / 4 ∧ win6_2.index t 1 = t.val % 4)

theorem blk6_0 (V : (c : Dev nD) → (b : Ref sig .tc) → Buf (Elt Ideal) ((c : Thread nD τ).loc b)) (c : Dev nD) (t : Fin cfg6.N) (a : Fin 1024) (b : Fin 4096) :
    iblk6 V c 0 t (ix2 a b) = V c main_v24 (ix2 (⟨t.val / 4 * 1024 + a.val, by have h : t.val < 64 := t.isLt; omega⟩ : Fin 16384) (b : Fin 4096)) := by
  have hi := ix6_0 t
  unfold iblk6
  rw [View.read_apply]
  refine congrArg (V c main_v24) (Shape.idx_ext₂ ?_ ?_)
  · show win6_0.index t 0 * 1024 + 1 * a.val = _; rw [hi.1]; simp <;> omega
  · show win6_0.index t 1 * 4096 + 1 * b.val = _; rw [hi.2]; simp <;> omega

theorem blk6_1 (V : (c : Dev nD) → (b : Ref sig .tc) → Buf (Elt Ideal) ((c : Thread nD τ).loc b)) (c : Dev nD) (t : Fin cfg6.N) (b : Fin 4096) (d : Fin 1024) :
    iblk6 V c 1 t (ix3 0 b d) = V c main_v2 (ix3 ((1 : Fin 2) : Fin 2) (b : Fin 4096) (⟨t.val % 4 * 1024 + d.val, by have h : t.val < 64 := t.isLt; omega⟩ : Fin 4096)) := by
  have hi := ix6_1 t
  unfold iblk6
  rw [View.read_apply]
  refine congrArg (V c main_v2) (funext fun x => Fin.ext ?_)
  match x with
  | ⟨0, _⟩ => show win6_1.index t 0 * 1 + 1 * 0 = _; rw [hi.1]; simp <;> omega
  | ⟨1, _⟩ => show win6_1.index t 1 * 4096 + 1 * b.val = _; rw [hi.2.1]; simp <;> omega
  | ⟨2, _⟩ => show win6_1.index t 2 * 1024 + 1 * d.val = _; rw [hi.2.2]; simp <;> omega

/-- What call 6 leaves in its result, from its operands. -/
def G6 (x0 : S16384x4096.Idx → EReal) (x1 : S2x4096x4096.Idx → EReal) : S16384x4096.Idx → EReal := fun i =>
  have r : Fin 16384 := i 0
  have j : Fin 4096 := i 1
  (∑ k : Fin 4096, x0 (ix2 r k) * x1 (ix3 1 k j))

theorem flushed6 (V : (c : Dev nD) → (b : Ref sig .tc) → Buf (Elt Ideal) ((c : Thread nD τ).loc b)) (c : Dev nD) (t : Fin cfg6.N) :
    (dat6 V c).flushed 2 t = ((cfg6.win 2).blk t).view.read (Elt Ideal) (G6 (V c main_v24) (V c main_v2)) := by
  show (cfg6.win 2).cut (cfg6.grid.coords t) ((dat6 V c).after 2 t) = _
  rw [after6_2]
  unfold out6_2
  rw [View.canon_unit_zero hz2]
  simp only [View.ld_unit_zero (S := S1024x4096) hz2, View.ld_unit_zero (S := S1x4096x1024) hz3]
  funext y
  rw [View.read_apply]
  obtain ⟨a, b, rfl⟩ : ∃ (a : Fin 1024) (b : Fin 1024), y = ix2 a b := ⟨y 0, y 1, eq_ix2 y⟩
  have hi := ix6_2 t
  have hN : t.val < 64 := t.isLt
  have e : ((View.whole main_v29).slice ((win6 2).rect t)).emb (ix2 a b)
      = (ix2 (⟨t.val / 4 * 1024 + a.val, by omega⟩ : Fin 16384) (⟨t.val % 4 * 1024 + b.val, by omega⟩ : Fin 4096) : S16384x4096.Idx) := by
    refine Shape.idx_ext₂ ?_ ?_
    · show win6_2.index t 0 * 1024 + 1 * a.val = _; rw [hi.1]; simp
    · show win6_2.index t 1 * 1024 + 1 * b.val = _; rw [hi.2]; simp
  rw [e]
  show (k6_pay1 (F := Ideal) _ _  (ix2 a b) : EReal) = G6 _ _ _
  pointwise [k6_pay1]
  simp only [blk6_0, blk6_1]
  rfl

theorem final6 (V : (c : Dev nD) → (b : Ref sig .tc) → Buf (Elt Ideal) ((c : Thread nD τ).loc b)) (c : Dev nD) :
    (dat6 V c).arrAt 2 cfg6.N = G6 (V c main_v24) (V c main_v2) :=
  (dat6 V c).arrAt_eq_of_cover 2 _ (fun t _ => flushed6 V c t) fun i => by
    have h0 : (i 0 : Nat) < 16384 := (i 0).isLt
    have h1 : (i 1 : Nat) < 4096 := (i 1).isLt
    obtain ⟨t, ht⟩ : ∃ t : Fin cfg6.N, t.val = (i 0 : Nat) / 1024 * 4 + (i 1 : Nat) / 1024 := ⟨⟨(i 0 : Nat) / 1024 * 4 + (i 1 : Nat) / 1024, by show _ < 64; omega⟩, rfl⟩
    have hi := ix6_2 t
    refine ⟨t, flush6_2 t, ?_⟩
    show i ∈ ((View.whole main_v29).slice (win6_2.rect t)).set
    rw [View.set_slice_whole, Rect.mem_set_unit]
    intro x
    match x with
    | ⟨0, _⟩ => show win6_2.index t 0 * 1024 ≤ (i 0 : Nat) ∧ (i 0 : Nat) < win6_2.index t 0 * 1024 + 1024; rw [hi.1]; omega
    | ⟨1, _⟩ => show win6_2.index t 1 * 1024 ≤ (i 1 : Nat) ∧ (i 1 : Nat) < win6_2.index t 1 * 1024 + 1024; rw [hi.2]; omega
theorem ix7_0 : ∀ t : Fin cfg7.N, win7_0.index t 0 = 0 ∧ win7_0.index t 1 = 0 :=
  (by decide +kernel : ∀ t : Fin grid7.N, win7_0.index t 0 = 0 ∧ win7_0.index t 1 = 0)

theorem ix7_1 : ∀ t : Fin cfg7.N, win7_1.index t 0 = 1 ∧ win7_1.index t 1 = 0 ∧ win7_1.index t 2 = t.val :=
  (by decide +kernel : ∀ t : Fin grid7.N, win7_1.index t 0 = 1 ∧ win7_1.index t 1 = 0 ∧ win7_1.index t 2 = t.val)

theorem ix7_2 : ∀ t : Fin cfg7.N, win7_2.index t 0 = 0 ∧ win7_2.index t 1 = t.val :=
  (by decide +kernel : ∀ t : Fin grid7.N, win7_2.index t 0 = 0 ∧ win7_2.index t 1 = t.val)

theorem blk7_0 (V : (c : Dev nD) → (b : Ref sig .tc) → Buf (Elt Ideal) ((c : Thread nD τ).loc b)) (c : Dev nD) (t : Fin cfg7.N) (a : Fin 512) (b : Fin 4096) :
    iblk7 V c 0 t (ix2 a b) = V c main_v28 (ix2 (a : Fin 512) (b : Fin 4096)) := by
  have hi := ix7_0 t
  unfold iblk7
  rw [View.read_apply]
  refine congrArg (V c main_v28) (Shape.idx_ext₂ ?_ ?_)
  · show win7_0.index t 0 * 512 + 1 * a.val = _; rw [hi.1]; simp <;> omega
  · show win7_0.index t 1 * 4096 + 1 * b.val = _; rw [hi.2]; simp <;> omega

theorem blk7_1 (V : (c : Dev nD) → (b : Ref sig .tc) → Buf (Elt Ideal) ((c : Thread nD τ).loc b)) (c : Dev nD) (t : Fin cfg7.N) (b : Fin 4096) (d : Fin 1024) :
    iblk7 V c 1 t (ix3 0 b d) = V c main_v3 (ix3 ((1 : Fin 2) : Fin 2) (b : Fin 4096) (⟨t.val * 1024 + d.val, by have h : t.val < 8 := t.isLt; omega⟩ : Fin 8192)) := by
  have hi := ix7_1 t
  unfold iblk7
  rw [View.read_apply]
  refine congrArg (V c main_v3) (funext fun x => Fin.ext ?_)
  match x with
  | ⟨0, _⟩ => show win7_1.index t 0 * 1 + 1 * 0 = _; rw [hi.1]; simp <;> omega
  | ⟨1, _⟩ => show win7_1.index t 1 * 4096 + 1 * b.val = _; rw [hi.2.1]; simp <;> omega
  | ⟨2, _⟩ => show win7_1.index t 2 * 1024 + 1 * d.val = _; rw [hi.2.2]; simp <;> omega

/-- What call 7 leaves in its result, from its operands. -/
def G7 (x0 : S512x4096.Idx → EReal) (x1 : S2x4096x8192.Idx → EReal) : S512x8192.Idx → EReal := fun i =>
  have r : Fin 512 := i 0
  have j : Fin 8192 := i 1
  (∑ k : Fin 4096, x0 (ix2 r k) * x1 (ix3 1 k j))

theorem flushed7 (V : (c : Dev nD) → (b : Ref sig .tc) → Buf (Elt Ideal) ((c : Thread nD τ).loc b)) (c : Dev nD) (t : Fin cfg7.N) :
    (dat7 V c).flushed 2 t = ((cfg7.win 2).blk t).view.read (Elt Ideal) (G7 (V c main_v28) (V c main_v3)) := by
  show (cfg7.win 2).cut (cfg7.grid.coords t) ((dat7 V c).after 2 t) = _
  rw [after7_2]
  unfold out7_2
  rw [View.canon_unit_zero hz2]
  simp only [View.ld_unit_zero (S := S512x4096) hz2, View.ld_unit_zero (S := S1x4096x1024) hz3]
  funext y
  rw [View.read_apply]
  obtain ⟨a, b, rfl⟩ : ∃ (a : Fin 512) (b : Fin 1024), y = ix2 a b := ⟨y 0, y 1, eq_ix2 y⟩
  have hi := ix7_2 t
  have hN : t.val < 8 := t.isLt
  have e : ((View.whole main_v30).slice ((win7 2).rect t)).emb (ix2 a b)
      = (ix2 (a : Fin 512) (⟨t.val * 1024 + b.val, by omega⟩ : Fin 8192) : S512x8192.Idx) := by
    refine Shape.idx_ext₂ ?_ ?_
    · show win7_2.index t 0 * 512 + 1 * a.val = _; rw [hi.1]; simp
    · show win7_2.index t 1 * 1024 + 1 * b.val = _; rw [hi.2]; simp
  rw [e]
  show (k7_pay1 (F := Ideal) _ _  (ix2 a b) : EReal) = G7 _ _ _
  pointwise [k7_pay1]
  simp only [blk7_0, blk7_1]
  rfl

theorem final7 (V : (c : Dev nD) → (b : Ref sig .tc) → Buf (Elt Ideal) ((c : Thread nD τ).loc b)) (c : Dev nD) :
    (dat7 V c).arrAt 2 cfg7.N = G7 (V c main_v28) (V c main_v3) :=
  (dat7 V c).arrAt_eq_of_cover 2 _ (fun t _ => flushed7 V c t) fun i => by
    have h0 : (i 0 : Nat) < 512 := (i 0).isLt
    have h1 : (i 1 : Nat) < 8192 := (i 1).isLt
    obtain ⟨t, ht⟩ : ∃ t : Fin cfg7.N, t.val = (i 1 : Nat) / 1024 := ⟨⟨(i 1 : Nat) / 1024, by show _ < 8; omega⟩, rfl⟩
    have hi := ix7_2 t
    refine ⟨t, flush7_2 t, ?_⟩
    show i ∈ ((View.whole main_v30).slice (win7_2.rect t)).set
    rw [View.set_slice_whole, Rect.mem_set_unit]
    intro x
    match x with
    | ⟨0, _⟩ => show win7_2.index t 0 * 512 ≤ (i 0 : Nat) ∧ (i 0 : Nat) < win7_2.index t 0 * 512 + 512; rw [hi.1]; omega
    | ⟨1, _⟩ => show win7_2.index t 1 * 1024 ≤ (i 1 : Nat) ∧ (i 1 : Nat) < win7_2.index t 1 * 1024 + 1024; rw [hi.2]; omega
theorem ix9_0 : ∀ t : Fin cfg9.N, win9_0.index t 0 = t.val / 4 ∧ win9_0.index t 1 = 0 :=
  (by decide +kernel : ∀ t : Fin grid9.N, win9_0.index t 0 = t.val / 4 ∧ win9_0.index t 1 = 0)

theorem ix9_1 : ∀ t : Fin cfg9.N, win9_1.index t 0 = 1 ∧ win9_1.index t 1 = 0 ∧ win9_1.index t 2 = t.val % 4 :=
  (by decide +kernel : ∀ t : Fin grid9.N, win9_1.index t 0 = 1 ∧ win9_1.index t 1 = 0 ∧ win9_1.index t 2 = t.val % 4)

theorem ix9_2 : ∀ t : Fin cfg9.N, win9_2.index t 0 = t.val / 4 ∧ win9_2.index t 1 = t.val % 4 :=
  (by decide +kernel : ∀ t : Fin grid9.N, win9_2.index t 0 = t.val / 4 ∧ win9_2.index t 1 = t.val % 4)

theorem ix9_3 : ∀ t : Fin cfg9.N, win9_3.index t 0 = t.val / 4 ∧ win9_3.index t 1 = t.val % 4 :=
  (by decide +kernel : ∀ t : Fin grid9.N, win9_3.index t 0 = t.val / 4 ∧ win9_3.index t 1 = t.val % 4)

theorem blk9_0 (V : (c : Dev nD) → (b : Ref sig .tc) → Buf (Elt Ideal) ((c : Thread nD τ).loc b)) (c : Dev nD) (t : Fin cfg9.N) (a : Fin 1024) (b : Fin 4096) :
    iblk9 V c 0 t (ix2 a b) = V c main_v31 (ix2 (⟨t.val / 4 * 1024 + a.val, by have h : t.val < 64 := t.isLt; omega⟩ : Fin 16384) (b : Fin 4096)) := by
  have hi := ix9_0 t
  unfold iblk9
  rw [View.read_apply]
  refine congrArg (V c main_v31) (Shape.idx_ext₂ ?_ ?_)
  · show win9_0.index t 0 * 1024 + 1 * a.val = _; rw [hi.1]; simp <;> omega
  · show win9_0.index t 1 * 4096 + 1 * b.val = _; rw [hi.2]; simp <;> omega

theorem blk9_1 (V : (c : Dev nD) → (b : Ref sig .tc) → Buf (Elt Ideal) ((c : Thread nD τ).loc b)) (c : Dev nD) (t : Fin cfg9.N) (b : Fin 4096) (d : Fin 1024) :
    iblk9 V c 1 t (ix3 0 b d) = V c main_v4 (ix3 ((1 : Fin 2) : Fin 2) (b : Fin 4096) (⟨t.val % 4 * 1024 + d.val, by have h : t.val < 64 := t.isLt; omega⟩ : Fin 4096)) := by
  have hi := ix9_1 t
  unfold iblk9
  rw [View.read_apply]
  refine congrArg (V c main_v4) (funext fun x => Fin.ext ?_)
  match x with
  | ⟨0, _⟩ => show win9_1.index t 0 * 1 + 1 * 0 = _; rw [hi.1]; simp <;> omega
  | ⟨1, _⟩ => show win9_1.index t 1 * 4096 + 1 * b.val = _; rw [hi.2.1]; simp <;> omega
  | ⟨2, _⟩ => show win9_1.index t 2 * 1024 + 1 * d.val = _; rw [hi.2.2]; simp <;> omega

theorem blk9_2 (V : (c : Dev nD) → (b : Ref sig .tc) → Buf (Elt Ideal) ((c : Thread nD τ).loc b)) (c : Dev nD) (t : Fin cfg9.N) (a : Fin 1024) (b : Fin 1024) :
    iblk9 V c 2 t (ix2 a b) = V c main_v20 (ix2 (⟨t.val / 4 * 1024 + a.val, by have h : t.val < 64 := t.isLt; omega⟩ : Fin 16384) (⟨t.val % 4 * 1024 + b.val, by have h : t.val < 64 := t.isLt; omega⟩ : Fin 4096)) := by
  have hi := ix9_2 t
  unfold iblk9
  rw [View.read_apply]
  refine congrArg (V c main_v20) (Shape.idx_ext₂ ?_ ?_)
  · show win9_2.index t 0 * 1024 + 1 * a.val = _; rw [hi.1]; simp <;> omega
  · show win9_2.index t 1 * 1024 + 1 * b.val = _; rw [hi.2]; simp <;> omega

/-- What call 9 leaves in its result, from its operands. -/
def G9 (x0 : S16384x4096.Idx → EReal) (x1 : S2x4096x4096.Idx → EReal) (x2 : S16384x4096.Idx → EReal) : S16384x4096.Idx → EReal := fun i =>
  have r : Fin 16384 := i 0
  have j : Fin 4096 := i 1
  (∑ k : Fin 4096, x0 (ix2 r k) * x1 (ix3 1 k j)) + x2 (ix2 r j)

theorem flushed9 (V : (c : Dev nD) → (b : Ref sig .tc) → Buf (Elt Ideal) ((c : Thread nD τ).loc b)) (c : Dev nD) (t : Fin cfg9.N) :
    (dat9 V c).flushed 3 t = ((cfg9.win 3).blk t).view.read (Elt Ideal) (G9 (V c main_v31) (V c main_v4) (V c main_v20)) := by
  show (cfg9.win 3).cut (cfg9.grid.coords t) ((dat9 V c).after 3 t) = _
  rw [after9_3]
  unfold out9_3
  rw [View.canon_unit_zero hz2]
  simp only [View.ld_unit_zero (S := S1024x4096) hz2, View.ld_unit_zero (S := S1x4096x1024) hz3, View.ld_unit_zero (S := S1024x1024) hz2]
  funext y
  rw [View.read_apply]
  obtain ⟨a, b, rfl⟩ : ∃ (a : Fin 1024) (b : Fin 1024), y = ix2 a b := ⟨y 0, y 1, eq_ix2 y⟩
  have hi := ix9_3 t
  have hN : t.val < 64 := t.isLt
  have e : ((View.whole main_v32).slice ((win9 3).rect t)).emb (ix2 a b)
      = (ix2 (⟨t.val / 4 * 1024 + a.val, by omega⟩ : Fin 16384) (⟨t.val % 4 * 1024 + b.val, by omega⟩ : Fin 4096) : S16384x4096.Idx) := by
    refine Shape.idx_ext₂ ?_ ?_
    · show win9_3.index t 0 * 1024 + 1 * a.val = _; rw [hi.1]; simp
    · show win9_3.index t 1 * 1024 + 1 * b.val = _; rw [hi.2]; simp
  rw [e]
  show (k9_pay1 (F := Ideal) _ _ _  (ix2 a b) : EReal) = G9 _ _ _ _
  pointwise [k9_pay1]
  simp only [blk9_0, blk9_1, blk9_2]
  rfl

theorem final9 (V : (c : Dev nD) → (b : Ref sig .tc) → Buf (Elt Ideal) ((c : Thread nD τ).loc b)) (c : Dev nD) :
    (dat9 V c).arrAt 3 cfg9.N = G9 (V c main_v31) (V c main_v4) (V c main_v20) :=
  (dat9 V c).arrAt_eq_of_cover 3 _ (fun t _ => flushed9 V c t) fun i => by
    have h0 : (i 0 : Nat) < 16384 := (i 0).isLt
    have h1 : (i 1 : Nat) < 4096 := (i 1).isLt
    obtain ⟨t, ht⟩ : ∃ t : Fin cfg9.N, t.val = (i 0 : Nat) / 1024 * 4 + (i 1 : Nat) / 1024 := ⟨⟨(i 0 : Nat) / 1024 * 4 + (i 1 : Nat) / 1024, by show _ < 64; omega⟩, rfl⟩
    have hi := ix9_3 t
    refine ⟨t, flush9_3 t, ?_⟩
    show i ∈ ((View.whole main_v32).slice (win9_3.rect t)).set
    rw [View.set_slice_whole, Rect.mem_set_unit]
    intro x
    match x with
    | ⟨0, _⟩ => show win9_3.index t 0 * 1024 ≤ (i 0 : Nat) ∧ (i 0 : Nat) < win9_3.index t 0 * 1024 + 1024; rw [hi.1]; omega
    | ⟨1, _⟩ => show win9_3.index t 1 * 1024 ≤ (i 1 : Nat) ∧ (i 1 : Nat) < win9_3.index t 1 * 1024 + 1024; rw [hi.2]; omega
theorem ix11_0 : ∀ t : Fin cfg11.N, win11_0.index t 0 = t.val / 16 ∧ win11_0.index t 1 = 0 :=
  (by decide +kernel : ∀ t : Fin grid11.N, win11_0.index t 0 = t.val / 16 ∧ win11_0.index t 1 = 0)

theorem ix11_1 : ∀ t : Fin cfg11.N, win11_1.index t 0 = 1 ∧ win11_1.index t 1 = 0 ∧ win11_1.index t 2 = t.val % 16 :=
  (by decide +kernel : ∀ t : Fin grid11.N, win11_1.index t 0 = 1 ∧ win11_1.index t 1 = 0 ∧ win11_1.index t 2 = t.val % 16)

theorem ix11_2 : ∀ t : Fin cfg11.N, win11_2.index t 0 = t.val / 16 ∧ win11_2.index t 1 = t.val % 16 :=
  (by decide +kernel : ∀ t : Fin grid11.N, win11_2.index t 0 = t.val / 16 ∧ win11_2.index t 1 = t.val % 16)

theorem blk11_0 (V : (c : Dev nD) → (b : Ref sig .tc) → Buf (Elt Ideal) ((c : Thread nD τ).loc b)) (c : Dev nD) (t : Fin cfg11.N) (a : Fin 1024) (b : Fin 4096) :
    iblk11 V c 0 t (ix2 a b) = V c main_v36 (ix2 (⟨t.val / 16 * 1024 + a.val, by have h : t.val < 256 := t.isLt; omega⟩ : Fin 16384) (b : Fin 4096)) := by
  have hi := ix11_0 t
  unfold iblk11
  rw [View.read_apply]
  refine congrArg (V c main_v36) (Shape.idx_ext₂ ?_ ?_)
  · show win11_0.index t 0 * 1024 + 1 * a.val = _; rw [hi.1]; simp <;> omega
  · show win11_0.index t 1 * 4096 + 1 * b.val = _; rw [hi.2]; simp <;> omega

theorem blk11_1 (V : (c : Dev nD) → (b : Ref sig .tc) → Buf (Elt Ideal) ((c : Thread nD τ).loc b)) (c : Dev nD) (t : Fin cfg11.N) (b : Fin 4096) (d : Fin 1024) :
    iblk11 V c 1 t (ix3 0 b d) = V c main_v5 (ix3 ((1 : Fin 2) : Fin 2) (b : Fin 4096) (⟨t.val % 16 * 1024 + d.val, by have h : t.val < 256 := t.isLt; omega⟩ : Fin 16384)) := by
  have hi := ix11_1 t
  unfold iblk11
  rw [View.read_apply]
  refine congrArg (V c main_v5) (funext fun x => Fin.ext ?_)
  match x with
  | ⟨0, _⟩ => show win11_1.index t 0 * 1 + 1 * 0 = _; rw [hi.1]; simp <;> omega
  | ⟨1, _⟩ => show win11_1.index t 1 * 4096 + 1 * b.val = _; rw [hi.2.1]; simp <;> omega
  | ⟨2, _⟩ => show win11_1.index t 2 * 1024 + 1 * d.val = _; rw [hi.2.2]; simp <;> omega

/-- What call 11 leaves in its result, from its operands. -/
def G11 (x0 : S16384x4096.Idx → EReal) (x1 : S2x4096x16384.Idx → EReal) : S16384x16384.Idx → EReal := fun i =>
  have r : Fin 16384 := i 0
  have j : Fin 16384 := i 1
  max (∑ k : Fin 4096, x0 (ix2 r k) * x1 (ix3 1 k j)) 0 * max (∑ k : Fin 4096, x0 (ix2 r k) * x1 (ix3 1 k j)) 0

theorem flushed11 (V : (c : Dev nD) → (b : Ref sig .tc) → Buf (Elt Ideal) ((c : Thread nD τ).loc b)) (c : Dev nD) (t : Fin cfg11.N) :
    (dat11 V c).flushed 2 t = ((cfg11.win 2).blk t).view.read (Elt Ideal) (G11 (V c main_v36) (V c main_v5)) := by
  show (cfg11.win 2).cut (cfg11.grid.coords t) ((dat11 V c).after 2 t) = _
  rw [after11_2]
  unfold out11_2
  rw [View.canon_unit_zero hz2]
  simp only [View.ld_unit_zero (S := S1024x4096) hz2, View.ld_unit_zero (S := S1x4096x1024) hz3]
  funext y
  rw [View.read_apply]
  obtain ⟨a, b, rfl⟩ : ∃ (a : Fin 1024) (b : Fin 1024), y = ix2 a b := ⟨y 0, y 1, eq_ix2 y⟩
  have hi := ix11_2 t
  have hN : t.val < 256 := t.isLt
  have e : ((View.whole main_v37).slice ((win11 2).rect t)).emb (ix2 a b)
      = (ix2 (⟨t.val / 16 * 1024 + a.val, by omega⟩ : Fin 16384) (⟨t.val % 16 * 1024 + b.val, by omega⟩ : Fin 16384) : S16384x16384.Idx) := by
    refine Shape.idx_ext₂ ?_ ?_
    · show win11_2.index t 0 * 1024 + 1 * a.val = _; rw [hi.1]; simp
    · show win11_2.index t 1 * 1024 + 1 * b.val = _; rw [hi.2]; simp
  rw [e]
  show (k11_pay1 (F := Ideal) _ _  (ix2 a b) : EReal) = G11 _ _ _
  pointwise [k11_pay1]
  simp only [blk11_0, blk11_1]
  rfl

theorem final11 (V : (c : Dev nD) → (b : Ref sig .tc) → Buf (Elt Ideal) ((c : Thread nD τ).loc b)) (c : Dev nD) :
    (dat11 V c).arrAt 2 cfg11.N = G11 (V c main_v36) (V c main_v5) :=
  (dat11 V c).arrAt_eq_of_cover 2 _ (fun t _ => flushed11 V c t) fun i => by
    have h0 : (i 0 : Nat) < 16384 := (i 0).isLt
    have h1 : (i 1 : Nat) < 16384 := (i 1).isLt
    obtain ⟨t, ht⟩ : ∃ t : Fin cfg11.N, t.val = (i 0 : Nat) / 1024 * 16 + (i 1 : Nat) / 1024 := ⟨⟨(i 0 : Nat) / 1024 * 16 + (i 1 : Nat) / 1024, by show _ < 256; omega⟩, rfl⟩
    have hi := ix11_2 t
    refine ⟨t, flush11_2 t, ?_⟩
    show i ∈ ((View.whole main_v37).slice (win11_2.rect t)).set
    rw [View.set_slice_whole, Rect.mem_set_unit]
    intro x
    match x with
    | ⟨0, _⟩ => show win11_2.index t 0 * 1024 ≤ (i 0 : Nat) ∧ (i 0 : Nat) < win11_2.index t 0 * 1024 + 1024; rw [hi.1]; omega
    | ⟨1, _⟩ => show win11_2.index t 1 * 1024 ≤ (i 1 : Nat) ∧ (i 1 : Nat) < win11_2.index t 1 * 1024 + 1024; rw [hi.2]; omega
theorem ix12_0 : ∀ t : Fin cfg12.N, win12_0.index t 0 = t.val / 16 ∧ win12_0.index t 1 = 0 :=
  (by decide +kernel : ∀ t : Fin grid12.N, win12_0.index t 0 = t.val / 16 ∧ win12_0.index t 1 = 0)

theorem ix12_1 : ∀ t : Fin cfg12.N, win12_1.index t 0 = 1 ∧ win12_1.index t 1 = 0 ∧ win12_1.index t 2 = t.val % 16 :=
  (by decide +kernel : ∀ t : Fin grid12.N, win12_1.index t 0 = 1 ∧ win12_1.index t 1 = 0 ∧ win12_1.index t 2 = t.val % 16)

theorem ix12_2 : ∀ t : Fin cfg12.N, win12_2.index t 0 = t.val / 16 ∧ win12_2.index t 1 = t.val % 16 :=
  (by decide +kernel : ∀ t : Fin grid12.N, win12_2.index t 0 = t.val / 16 ∧ win12_2.index t 1 = t.val % 16)

theorem ix12_3 : ∀ t : Fin cfg12.N, win12_3.index t 0 = t.val / 16 ∧ win12_3.index t 1 = t.val % 16 :=
  (by decide +kernel : ∀ t : Fin grid12.N, win12_3.index t 0 = t.val / 16 ∧ win12_3.index t 1 = t.val % 16)

theorem blk12_0 (V : (c : Dev nD) → (b : Ref sig .tc) → Buf (Elt Ideal) ((c : Thread nD τ).loc b)) (c : Dev nD) (t : Fin cfg12.N) (a : Fin 512) (b : Fin 16384) :
    iblk12 V c 0 t (ix2 a b) = V c main_v37 (ix2 (⟨t.val / 16 * 512 + a.val, by have h : t.val < 512 := t.isLt; omega⟩ : Fin 16384) (b : Fin 16384)) := by
  have hi := ix12_0 t
  unfold iblk12
  rw [View.read_apply]
  refine congrArg (V c main_v37) (Shape.idx_ext₂ ?_ ?_)
  · show win12_0.index t 0 * 512 + 1 * a.val = _; rw [hi.1]; simp <;> omega
  · show win12_0.index t 1 * 16384 + 1 * b.val = _; rw [hi.2]; simp <;> omega

theorem blk12_1 (V : (c : Dev nD) → (b : Ref sig .tc) → Buf (Elt Ideal) ((c : Thread nD τ).loc b)) (c : Dev nD) (t : Fin cfg12.N) (b : Fin 16384) (d : Fin 256) :
    iblk12 V c 1 t (ix3 0 b d) = V c main_v6 (ix3 ((1 : Fin 2) : Fin 2) (b : Fin 16384) (⟨t.val % 16 * 256 + d.val, by have h : t.val < 512 := t.isLt; omega⟩ : Fin 4096)) := by
  have hi := ix12_1 t
  unfold iblk12
  rw [View.read_apply]
  refine congrArg (V c main_v6) (funext fun x => Fin.ext ?_)
  match x with
  | ⟨0, _⟩ => show win12_1.index t 0 * 1 + 1 * 0 = _; rw [hi.1]; simp <;> omega
  | ⟨1, _⟩ => show win12_1.index t 1 * 16384 + 1 * b.val = _; rw [hi.2.1]; simp <;> omega
  | ⟨2, _⟩ => show win12_1.index t 2 * 256 + 1 * d.val = _; rw [hi.2.2]; simp <;> omega

theorem blk12_2 (V : (c : Dev nD) → (b : Ref sig .tc) → Buf (Elt Ideal) ((c : Thread nD τ).loc b)) (c : Dev nD) (t : Fin cfg12.N) (a : Fin 512) (b : Fin 256) :
    iblk12 V c 2 t (ix2 a b) = V c main_v32 (ix2 (⟨t.val / 16 * 512 + a.val, by have h : t.val < 512 := t.isLt; omega⟩ : Fin 16384) (⟨t.val % 16 * 256 + b.val, by have h : t.val < 512 := t.isLt; omega⟩ : Fin 4096)) := by
  have hi := ix12_2 t
  unfold iblk12
  rw [View.read_apply]
  refine congrArg (V c main_v32) (Shape.idx_ext₂ ?_ ?_)
  · show win12_2.index t 0 * 512 + 1 * a.val = _; rw [hi.1]; simp <;> omega
  · show win12_2.index t 1 * 256 + 1 * b.val = _; rw [hi.2]; simp <;> omega

/-- What call 12 leaves in its result, from its operands. -/
def G12 (x0 : S16384x16384.Idx → EReal) (x1 : S2x16384x4096.Idx → EReal) (x2 : S16384x4096.Idx → EReal) : S16384x4096.Idx → EReal := fun i =>
  have r : Fin 16384 := i 0
  have j : Fin 4096 := i 1
  (∑ k : Fin 16384, x0 (ix2 r k) * x1 (ix3 1 k j)) + x2 (ix2 r j)

theorem flushed12 (V : (c : Dev nD) → (b : Ref sig .tc) → Buf (Elt Ideal) ((c : Thread nD τ).loc b)) (c : Dev nD) (t : Fin cfg12.N) :
    (dat12 V c).flushed 3 t = ((cfg12.win 3).blk t).view.read (Elt Ideal) (G12 (V c main_v37) (V c main_v6) (V c main_v32)) := by
  show (cfg12.win 3).cut (cfg12.grid.coords t) ((dat12 V c).after 3 t) = _
  rw [after12_3]
  unfold out12_3
  rw [View.canon_unit_zero hz2]
  simp only [View.ld_unit_zero (S := S512x16384) hz2, View.ld_unit_zero (S := S1x16384x256) hz3, View.ld_unit_zero (S := S512x256) hz2]
  funext y
  rw [View.read_apply]
  obtain ⟨a, b, rfl⟩ : ∃ (a : Fin 512) (b : Fin 256), y = ix2 a b := ⟨y 0, y 1, eq_ix2 y⟩
  have hi := ix12_3 t
  have hN : t.val < 512 := t.isLt
  have e : ((View.whole main_v38).slice ((win12 3).rect t)).emb (ix2 a b)
      = (ix2 (⟨t.val / 16 * 512 + a.val, by omega⟩ : Fin 16384) (⟨t.val % 16 * 256 + b.val, by omega⟩ : Fin 4096) : S16384x4096.Idx) := by
    refine Shape.idx_ext₂ ?_ ?_
    · show win12_3.index t 0 * 512 + 1 * a.val = _; rw [hi.1]; simp
    · show win12_3.index t 1 * 256 + 1 * b.val = _; rw [hi.2]; simp
  rw [e]
  show (k12_pay1 (F := Ideal) _ _ _  (ix2 a b) : EReal) = G12 _ _ _ _
  pointwise [k12_pay1]
  simp only [blk12_0, blk12_1, blk12_2]
  rfl

theorem final12 (V : (c : Dev nD) → (b : Ref sig .tc) → Buf (Elt Ideal) ((c : Thread nD τ).loc b)) (c : Dev nD) :
    (dat12 V c).arrAt 3 cfg12.N = G12 (V c main_v37) (V c main_v6) (V c main_v32) :=
  (dat12 V c).arrAt_eq_of_cover 3 _ (fun t _ => flushed12 V c t) fun i => by
    have h0 : (i 0 : Nat) < 16384 := (i 0).isLt
    have h1 : (i 1 : Nat) < 4096 := (i 1).isLt
    obtain ⟨t, ht⟩ : ∃ t : Fin cfg12.N, t.val = (i 0 : Nat) / 512 * 16 + (i 1 : Nat) / 256 := ⟨⟨(i 0 : Nat) / 512 * 16 + (i 1 : Nat) / 256, by show _ < 512; omega⟩, rfl⟩
    have hi := ix12_3 t
    refine ⟨t, flush12_3 t, ?_⟩
    show i ∈ ((View.whole main_v38).slice (win12_3.rect t)).set
    rw [View.set_slice_whole, Rect.mem_set_unit]
    intro x
    match x with
    | ⟨0, _⟩ => show win12_3.index t 0 * 512 ≤ (i 0 : Nat) ∧ (i 0 : Nat) < win12_3.index t 0 * 512 + 512; rw [hi.1]; omega
    | ⟨1, _⟩ => show win12_3.index t 1 * 256 ≤ (i 1 : Nat) ∧ (i 1 : Nat) < win12_3.index t 1 * 256 + 256; rw [hi.2]; omega

end Cert.Kernel2Ideal.Hand

end
-- ==== Proof.Norms.lean ====
module

public import proofs.«01_k».proof.Proof.Gen.Kernel2Ideal.Frame.Region4
public import proofs.«01_k».proof.Proof.Gen.Kernel2Ideal.Frame.Region5
public import proofs.«01_k».proof.Proof.Gen.Kernel2Ideal.Frame.Region10
public import proofs.«01_k».proof.Proof.Gen.Kernel2Ideal.Frame.Region13
public import proofs.«01_k».proof.Proof.Zero
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem ix4_0 : ∀ t : Fin cfg4.N, win4_0.index t 0 = t.val ∧ win4_0.index t 1 = 0 :=
  (by decide +kernel : ∀ t : Fin grid4.N, win4_0.index t 0 = t.val ∧ win4_0.index t 1 = 0)

theorem ix4_1 : ∀ t : Fin cfg4.N, win4_1.index t 0 = 0 ∧ win4_1.index t 1 = 0 :=
  (by decide +kernel : ∀ t : Fin grid4.N, win4_1.index t 0 = 0 ∧ win4_1.index t 1 = 0)

theorem ix4_2 : ∀ t : Fin cfg4.N, win4_2.index t 0 = t.val ∧ win4_2.index t 1 = 0 :=
  (by decide +kernel : ∀ t : Fin grid4.N, win4_2.index t 0 = t.val ∧ win4_2.index t 1 = 0)

theorem blk4_0 (V : (c : Dev nD) → (b : Ref sig .tc) → Buf (Elt Ideal) ((c : Thread nD τ).loc b)) (c : Dev nD) (t : Fin cfg4.N) (a : Fin 512) (b : Fin 4096) :
    iblk4 V c 0 t (ix2 a b) = V c main_v20 (ix2 (⟨t.val * 512 + a.val, by have h : t.val < 32 := t.isLt; omega⟩ : Fin 16384) (b : Fin 4096)) := by
  have hi := ix4_0 t
  unfold iblk4
  rw [View.read_apply]
  refine congrArg (V c main_v20) (Shape.idx_ext₂ ?_ ?_)
  · show win4_0.index t 0 * 512 + 1 * a.val = _; rw [hi.1]; simp <;> omega
  · show win4_0.index t 1 * 4096 + 1 * b.val = _; rw [hi.2]; simp <;> omega

theorem blk4_1 (V : (c : Dev nD) → (b : Ref sig .tc) → Buf (Elt Ideal) ((c : Thread nD τ).loc b)) (c : Dev nD) (t : Fin cfg4.N) (b : Fin 4096) :
    iblk4 V c 1 t (ix2 0 b) = V c main_v23 (ix2 ((0 : Fin 1) : Fin 1) (b : Fin 4096)) := by
  have hi := ix4_1 t
  unfold iblk4
  rw [View.read_apply]
  refine congrArg (V c main_v23) (Shape.idx_ext₂ ?_ ?_)
  · show win4_1.index t 0 * 1 + 1 * 0 = _; rw [hi.1]; simp <;> omega
  · show win4_1.index t 1 * 4096 + 1 * b.val = _; rw [hi.2]; simp <;> omega

/-- What call 4 leaves in its result, from its operands. -/
def G4 (x0 : S16384x4096.Idx → EReal) (x1 : S1x4096.Idx → EReal) : S16384x4096.Idx → EReal := fun i =>
  have r : Fin 16384 := i 0
  have j : Fin 4096 := i 1
  x0 (ix2 r j) * Ideal.rsqrt (Ideal.div (∑ k : Fin 4096, x0 (ix2 r k) * x0 (ix2 r k)) (Ideal.ofBits .f32 0x45800000#32) + Ideal.ofBits .f32 0x358637BD#32) * x1 (ix2 0 j)

theorem flushed4 (V : (c : Dev nD) → (b : Ref sig .tc) → Buf (Elt Ideal) ((c : Thread nD τ).loc b)) (c : Dev nD) (t : Fin cfg4.N) :
    (dat4 V c).flushed 2 t = ((cfg4.win 2).blk t).view.read (Elt Ideal) (G4 (V c main_v20) (V c main_v23)) := by
  show (cfg4.win 2).cut (cfg4.grid.coords t) ((dat4 V c).after 2 t) = _
  rw [after4_2]
  unfold out4_2
  rw [View.canon_unit_zero hz2]
  simp only [View.ld_unit_zero (S := S512x4096) hz2, View.ld_unit_zero (S := S1x4096) hz2]
  funext y
  rw [View.read_apply]
  obtain ⟨a, b, rfl⟩ : ∃ (a : Fin 512) (b : Fin 4096), y = ix2 a b := ⟨y 0, y 1, eq_ix2 y⟩
  have hi := ix4_2 t
  have hN : t.val < 32 := t.isLt
  have e : ((View.whole main_v24).slice ((win4 2).rect t)).emb (ix2 a b)
      = (ix2 (⟨t.val * 512 + a.val, by omega⟩ : Fin 16384) (b : Fin 4096) : S16384x4096.Idx) := by
    refine Shape.idx_ext₂ ?_ ?_
    · show win4_2.index t 0 * 512 + 1 * a.val = _; rw [hi.1]; simp
    · show win4_2.index t 1 * 4096 + 1 * b.val = _; rw [hi.2]; simp
  rw [e]
  show (k4_pay1 (F := Ideal) _ _ (ix2 a b) : EReal) = G4 _ _ _
  pointwise [k4_pay1]
  simp only [blk4_0, blk4_1]
  rfl

theorem final4 (V : (c : Dev nD) → (b : Ref sig .tc) → Buf (Elt Ideal) ((c : Thread nD τ).loc b)) (c : Dev nD) :
    (dat4 V c).arrAt 2 cfg4.N = G4 (V c main_v20) (V c main_v23) :=
  (dat4 V c).arrAt_eq_of_cover 2 _ (fun t _ => flushed4 V c t) fun i => by
    have h0 : (i 0 : Nat) < 16384 := (i 0).isLt
    have h1 : (i 1 : Nat) < 4096 := (i 1).isLt
    obtain ⟨t, ht⟩ : ∃ t : Fin cfg4.N, t.val = (i 0 : Nat) / 512 := ⟨⟨(i 0 : Nat) / 512, by show _ < 32; omega⟩, rfl⟩
    have hi := ix4_2 t
    refine ⟨t, flush4_2 t, ?_⟩
    show i ∈ ((View.whole main_v24).slice (win4_2.rect t)).set
    rw [View.set_slice_whole, Rect.mem_set_unit]
    intro x
    match x with
    | ⟨0, _⟩ => show win4_2.index t 0 * 512 ≤ (i 0 : Nat) ∧ (i 0 : Nat) < win4_2.index t 0 * 512 + 512; rw [hi.1]; omega
    | ⟨1, _⟩ => show win4_2.index t 1 * 4096 ≤ (i 1 : Nat) ∧ (i 1 : Nat) < win4_2.index t 1 * 4096 + 4096; rw [hi.2]; omega
theorem ix5_0 : ∀ t : Fin cfg5.N, win5_0.index t 0 = 0 ∧ win5_0.index t 1 = 0 :=
  (by decide +kernel : ∀ t : Fin grid5.N, win5_0.index t 0 = 0 ∧ win5_0.index t 1 = 0)

theorem ix5_1 : ∀ t : Fin cfg5.N, win5_1.index t 0 = 0 ∧ win5_1.index t 1 = 0 :=
  (by decide +kernel : ∀ t : Fin grid5.N, win5_1.index t 0 = 0 ∧ win5_1.index t 1 = 0)

theorem ix5_2 : ∀ t : Fin cfg5.N, win5_2.index t 0 = 0 ∧ win5_2.index t 1 = 0 :=
  (by decide +kernel : ∀ t : Fin grid5.N, win5_2.index t 0 = 0 ∧ win5_2.index t 1 = 0)

theorem blk5_0 (V : (c : Dev nD) → (b : Ref sig .tc) → Buf (Elt Ideal) ((c : Thread nD τ).loc b)) (c : Dev nD) (t : Fin cfg5.N) (a : Fin 512) (b : Fin 4096) :
    iblk5 V c 0 t (ix2 a b) = V c main_v8 (ix2 (a : Fin 512) (b : Fin 4096)) := by
  have hi := ix5_0 t
  unfold iblk5
  rw [View.read_apply]
  refine congrArg (V c main_v8) (Shape.idx_ext₂ ?_ ?_)
  · show win5_0.index t 0 * 512 + 1 * a.val = _; rw [hi.1]; simp <;> omega
  · show win5_0.index t 1 * 4096 + 1 * b.val = _; rw [hi.2]; simp <;> omega

theorem blk5_1 (V : (c : Dev nD) → (b : Ref sig .tc) → Buf (Elt Ideal) ((c : Thread nD τ).loc b)) (c : Dev nD) (t : Fin cfg5.N) (b : Fin 4096) :
    iblk5 V c 1 t (ix2 0 b) = V c main_v27 (ix2 ((0 : Fin 1) : Fin 1) (b : Fin 4096)) := by
  have hi := ix5_1 t
  unfold iblk5
  rw [View.read_apply]
  refine congrArg (V c main_v27) (Shape.idx_ext₂ ?_ ?_)
  · show win5_1.index t 0 * 1 + 1 * 0 = _; rw [hi.1]; simp <;> omega
  · show win5_1.index t 1 * 4096 + 1 * b.val = _; rw [hi.2]; simp <;> omega

/-- What call 5 leaves in its result, from its operands. -/
def G5 (x0 : S512x4096.Idx → EReal) (x1 : S1x4096.Idx → EReal) : S512x4096.Idx → EReal := fun i =>
  have r : Fin 512 := i 0
  have j : Fin 4096 := i 1
  x0 (ix2 r j) * Ideal.rsqrt (Ideal.div (∑ k : Fin 4096, x0 (ix2 r k) * x0 (ix2 r k)) (Ideal.ofBits .f32 0x45800000#32) + Ideal.ofBits .f32 0x358637BD#32) * x1 (ix2 0 j)

theorem flushed5 (V : (c : Dev nD) → (b : Ref sig .tc) → Buf (Elt Ideal) ((c : Thread nD τ).loc b)) (c : Dev nD) (t : Fin cfg5.N) :
    (dat5 V c).flushed 2 t = ((cfg5.win 2).blk t).view.read (Elt Ideal) (G5 (V c main_v8) (V c main_v27)) := by
  show (cfg5.win 2).cut (cfg5.grid.coords t) ((dat5 V c).after 2 t) = _
  rw [after5_2]
  unfold out5_2
  rw [View.canon_unit_zero hz2]
  simp only [View.ld_unit_zero (S := S512x4096) hz2, View.ld_unit_zero (S := S1x4096) hz2]
  funext y
  rw [View.read_apply]
  obtain ⟨a, b, rfl⟩ : ∃ (a : Fin 512) (b : Fin 4096), y = ix2 a b := ⟨y 0, y 1, eq_ix2 y⟩
  have hi := ix5_2 t
  have hN : t.val < 1 := t.isLt
  have e : ((View.whole main_v28).slice ((win5 2).rect t)).emb (ix2 a b)
      = (ix2 (a : Fin 512) (b : Fin 4096) : S512x4096.Idx) := by
    refine Shape.idx_ext₂ ?_ ?_
    · show win5_2.index t 0 * 512 + 1 * a.val = _; rw [hi.1]; simp
    · show win5_2.index t 1 * 4096 + 1 * b.val = _; rw [hi.2]; simp
  rw [e]
  show (k5_pay1 (F := Ideal) _ _ (ix2 a b) : EReal) = G5 _ _ _
  pointwise [k5_pay1]
  simp only [blk5_0, blk5_1]
  rfl

theorem final5 (V : (c : Dev nD) → (b : Ref sig .tc) → Buf (Elt Ideal) ((c : Thread nD τ).loc b)) (c : Dev nD) :
    (dat5 V c).arrAt 2 cfg5.N = G5 (V c main_v8) (V c main_v27) :=
  (dat5 V c).arrAt_eq_of_cover 2 _ (fun t _ => flushed5 V c t) fun i => by
    have h0 : (i 0 : Nat) < 512 := (i 0).isLt
    have h1 : (i 1 : Nat) < 4096 := (i 1).isLt
    obtain ⟨t, ht⟩ : ∃ t : Fin cfg5.N, t.val = 0 := ⟨⟨0, by show _ < 1; omega⟩, rfl⟩
    have hi := ix5_2 t
    refine ⟨t, flush5_2 t, ?_⟩
    show i ∈ ((View.whole main_v28).slice (win5_2.rect t)).set
    rw [View.set_slice_whole, Rect.mem_set_unit]
    intro x
    match x with
    | ⟨0, _⟩ => show win5_2.index t 0 * 512 ≤ (i 0 : Nat) ∧ (i 0 : Nat) < win5_2.index t 0 * 512 + 512; rw [hi.1]; omega
    | ⟨1, _⟩ => show win5_2.index t 1 * 4096 ≤ (i 1 : Nat) ∧ (i 1 : Nat) < win5_2.index t 1 * 4096 + 4096; rw [hi.2]; omega
theorem ix10_0 : ∀ t : Fin cfg10.N, win10_0.index t 0 = t.val ∧ win10_0.index t 1 = 0 :=
  (by decide +kernel : ∀ t : Fin grid10.N, win10_0.index t 0 = t.val ∧ win10_0.index t 1 = 0)

theorem ix10_1 : ∀ t : Fin cfg10.N, win10_1.index t 0 = 0 ∧ win10_1.index t 1 = 0 :=
  (by decide +kernel : ∀ t : Fin grid10.N, win10_1.index t 0 = 0 ∧ win10_1.index t 1 = 0)

theorem ix10_2 : ∀ t : Fin cfg10.N, win10_2.index t 0 = t.val ∧ win10_2.index t 1 = 0 :=
  (by decide +kernel : ∀ t : Fin grid10.N, win10_2.index t 0 = t.val ∧ win10_2.index t 1 = 0)

theorem blk10_0 (V : (c : Dev nD) → (b : Ref sig .tc) → Buf (Elt Ideal) ((c : Thread nD τ).loc b)) (c : Dev nD) (t : Fin cfg10.N) (a : Fin 512) (b : Fin 4096) :
    iblk10 V c 0 t (ix2 a b) = V c main_v32 (ix2 (⟨t.val * 512 + a.val, by have h : t.val < 32 := t.isLt; omega⟩ : Fin 16384) (b : Fin 4096)) := by
  have hi := ix10_0 t
  unfold iblk10
  rw [View.read_apply]
  refine congrArg (V c main_v32) (Shape.idx_ext₂ ?_ ?_)
  · show win10_0.index t 0 * 512 + 1 * a.val = _; rw [hi.1]; simp <;> omega
  · show win10_0.index t 1 * 4096 + 1 * b.val = _; rw [hi.2]; simp <;> omega

theorem blk10_1 (V : (c : Dev nD) → (b : Ref sig .tc) → Buf (Elt Ideal) ((c : Thread nD τ).loc b)) (c : Dev nD) (t : Fin cfg10.N) (b : Fin 4096) :
    iblk10 V c 1 t (ix2 0 b) = V c main_v35 (ix2 ((0 : Fin 1) : Fin 1) (b : Fin 4096)) := by
  have hi := ix10_1 t
  unfold iblk10
  rw [View.read_apply]
  refine congrArg (V c main_v35) (Shape.idx_ext₂ ?_ ?_)
  · show win10_1.index t 0 * 1 + 1 * 0 = _; rw [hi.1]; simp <;> omega
  · show win10_1.index t 1 * 4096 + 1 * b.val = _; rw [hi.2]; simp <;> omega

/-- What call 10 leaves in its result, from its operands. -/
def G10 (x0 : S16384x4096.Idx → EReal) (x1 : S1x4096.Idx → EReal) : S16384x4096.Idx → EReal := fun i =>
  have r : Fin 16384 := i 0
  have j : Fin 4096 := i 1
  x0 (ix2 r j) * Ideal.rsqrt (Ideal.div (∑ k : Fin 4096, x0 (ix2 r k) * x0 (ix2 r k)) (Ideal.ofBits .f32 0x45800000#32) + Ideal.ofBits .f32 0x358637BD#32) * x1 (ix2 0 j)

theorem flushed10 (V : (c : Dev nD) → (b : Ref sig .tc) → Buf (Elt Ideal) ((c : Thread nD τ).loc b)) (c : Dev nD) (t : Fin cfg10.N) :
    (dat10 V c).flushed 2 t = ((cfg10.win 2).blk t).view.read (Elt Ideal) (G10 (V c main_v32) (V c main_v35)) := by
  show (cfg10.win 2).cut (cfg10.grid.coords t) ((dat10 V c).after 2 t) = _
  rw [after10_2]
  unfold out10_2
  rw [View.canon_unit_zero hz2]
  simp only [View.ld_unit_zero (S := S512x4096) hz2, View.ld_unit_zero (S := S1x4096) hz2]
  funext y
  rw [View.read_apply]
  obtain ⟨a, b, rfl⟩ : ∃ (a : Fin 512) (b : Fin 4096), y = ix2 a b := ⟨y 0, y 1, eq_ix2 y⟩
  have hi := ix10_2 t
  have hN : t.val < 32 := t.isLt
  have e : ((View.whole main_v36).slice ((win10 2).rect t)).emb (ix2 a b)
      = (ix2 (⟨t.val * 512 + a.val, by omega⟩ : Fin 16384) (b : Fin 4096) : S16384x4096.Idx) := by
    refine Shape.idx_ext₂ ?_ ?_
    · show win10_2.index t 0 * 512 + 1 * a.val = _; rw [hi.1]; simp
    · show win10_2.index t 1 * 4096 + 1 * b.val = _; rw [hi.2]; simp
  rw [e]
  show (k10_pay1 (F := Ideal) _ _ (ix2 a b) : EReal) = G10 _ _ _
  pointwise [k10_pay1]
  simp only [blk10_0, blk10_1]
  rfl

theorem final10 (V : (c : Dev nD) → (b : Ref sig .tc) → Buf (Elt Ideal) ((c : Thread nD τ).loc b)) (c : Dev nD) :
    (dat10 V c).arrAt 2 cfg10.N = G10 (V c main_v32) (V c main_v35) :=
  (dat10 V c).arrAt_eq_of_cover 2 _ (fun t _ => flushed10 V c t) fun i => by
    have h0 : (i 0 : Nat) < 16384 := (i 0).isLt
    have h1 : (i 1 : Nat) < 4096 := (i 1).isLt
    obtain ⟨t, ht⟩ : ∃ t : Fin cfg10.N, t.val = (i 0 : Nat) / 512 := ⟨⟨(i 0 : Nat) / 512, by show _ < 32; omega⟩, rfl⟩
    have hi := ix10_2 t
    refine ⟨t, flush10_2 t, ?_⟩
    show i ∈ ((View.whole main_v36).slice (win10_2.rect t)).set
    rw [View.set_slice_whole, Rect.mem_set_unit]
    intro x
    match x with
    | ⟨0, _⟩ => show win10_2.index t 0 * 512 ≤ (i 0 : Nat) ∧ (i 0 : Nat) < win10_2.index t 0 * 512 + 512; rw [hi.1]; omega
    | ⟨1, _⟩ => show win10_2.index t 1 * 4096 ≤ (i 1 : Nat) ∧ (i 1 : Nat) < win10_2.index t 1 * 4096 + 4096; rw [hi.2]; omega
theorem ix13_0 : ∀ t : Fin cfg13.N, win13_0.index t 0 = t.val ∧ win13_0.index t 1 = 0 :=
  (by decide +kernel : ∀ t : Fin grid13.N, win13_0.index t 0 = t.val ∧ win13_0.index t 1 = 0)

theorem ix13_1 : ∀ t : Fin cfg13.N, win13_1.index t 0 = 0 ∧ win13_1.index t 1 = 0 :=
  (by decide +kernel : ∀ t : Fin grid13.N, win13_1.index t 0 = 0 ∧ win13_1.index t 1 = 0)

theorem ix13_2 : ∀ t : Fin cfg13.N, win13_2.index t 0 = t.val ∧ win13_2.index t 1 = 0 :=
  (by decide +kernel : ∀ t : Fin grid13.N, win13_2.index t 0 = t.val ∧ win13_2.index t 1 = 0)

theorem blk13_0 (V : (c : Dev nD) → (b : Ref sig .tc) → Buf (Elt Ideal) ((c : Thread nD τ).loc b)) (c : Dev nD) (t : Fin cfg13.N) (a : Fin 512) (b : Fin 4096) :
    iblk13 V c 0 t (ix2 a b) = V c main_v38 (ix2 (⟨t.val * 512 + a.val, by have h : t.val < 32 := t.isLt; omega⟩ : Fin 16384) (b : Fin 4096)) := by
  have hi := ix13_0 t
  unfold iblk13
  rw [View.read_apply]
  refine congrArg (V c main_v38) (Shape.idx_ext₂ ?_ ?_)
  · show win13_0.index t 0 * 512 + 1 * a.val = _; rw [hi.1]; simp <;> omega
  · show win13_0.index t 1 * 4096 + 1 * b.val = _; rw [hi.2]; simp <;> omega

theorem blk13_1 (V : (c : Dev nD) → (b : Ref sig .tc) → Buf (Elt Ideal) ((c : Thread nD τ).loc b)) (c : Dev nD) (t : Fin cfg13.N) (b : Fin 4096) :
    iblk13 V c 1 t (ix2 0 b) = V c main_v39 (ix2 ((0 : Fin 1) : Fin 1) (b : Fin 4096)) := by
  have hi := ix13_1 t
  unfold iblk13
  rw [View.read_apply]
  refine congrArg (V c main_v39) (Shape.idx_ext₂ ?_ ?_)
  · show win13_1.index t 0 * 1 + 1 * 0 = _; rw [hi.1]; simp <;> omega
  · show win13_1.index t 1 * 4096 + 1 * b.val = _; rw [hi.2]; simp <;> omega

/-- What call 13 leaves in its result, from its operands. -/
def G13 (x0 : S16384x4096.Idx → EReal) (x1 : S1x4096.Idx → EReal) : S16384x4096.Idx → EReal := fun i =>
  have r : Fin 16384 := i 0
  have j : Fin 4096 := i 1
  x0 (ix2 r j) * Ideal.rsqrt (Ideal.div (∑ k : Fin 4096, x0 (ix2 r k) * x0 (ix2 r k)) (Ideal.ofBits .f32 0x45800000#32) + Ideal.ofBits .f32 0x358637BD#32) * x1 (ix2 0 j)

theorem flushed13 (V : (c : Dev nD) → (b : Ref sig .tc) → Buf (Elt Ideal) ((c : Thread nD τ).loc b)) (c : Dev nD) (t : Fin cfg13.N) :
    (dat13 V c).flushed 2 t = ((cfg13.win 2).blk t).view.read (Elt Ideal) (G13 (V c main_v38) (V c main_v39)) := by
  show (cfg13.win 2).cut (cfg13.grid.coords t) ((dat13 V c).after 2 t) = _
  rw [after13_2]
  unfold out13_2
  rw [View.canon_unit_zero hz2]
  simp only [View.ld_unit_zero (S := S512x4096) hz2, View.ld_unit_zero (S := S1x4096) hz2]
  funext y
  rw [View.read_apply]
  obtain ⟨a, b, rfl⟩ : ∃ (a : Fin 512) (b : Fin 4096), y = ix2 a b := ⟨y 0, y 1, eq_ix2 y⟩
  have hi := ix13_2 t
  have hN : t.val < 32 := t.isLt
  have e : ((View.whole main_v40).slice ((win13 2).rect t)).emb (ix2 a b)
      = (ix2 (⟨t.val * 512 + a.val, by omega⟩ : Fin 16384) (b : Fin 4096) : S16384x4096.Idx) := by
    refine Shape.idx_ext₂ ?_ ?_
    · show win13_2.index t 0 * 512 + 1 * a.val = _; rw [hi.1]; simp
    · show win13_2.index t 1 * 4096 + 1 * b.val = _; rw [hi.2]; simp
  rw [e]
  show (k13_pay1 (F := Ideal) _ _ (ix2 a b) : EReal) = G13 _ _ _
  pointwise [k13_pay1]
  simp only [blk13_0, blk13_1]
  rfl

theorem final13 (V : (c : Dev nD) → (b : Ref sig .tc) → Buf (Elt Ideal) ((c : Thread nD τ).loc b)) (c : Dev nD) :
    (dat13 V c).arrAt 2 cfg13.N = G13 (V c main_v38) (V c main_v39) :=
  (dat13 V c).arrAt_eq_of_cover 2 _ (fun t _ => flushed13 V c t) fun i => by
    have h0 : (i 0 : Nat) < 16384 := (i 0).isLt
    have h1 : (i 1 : Nat) < 4096 := (i 1).isLt
    obtain ⟨t, ht⟩ : ∃ t : Fin cfg13.N, t.val = (i 0 : Nat) / 512 := ⟨⟨(i 0 : Nat) / 512, by show _ < 32; omega⟩, rfl⟩
    have hi := ix13_2 t
    refine ⟨t, flush13_2 t, ?_⟩
    show i ∈ ((View.whole main_v40).slice (win13_2.rect t)).set
    rw [View.set_slice_whole, Rect.mem_set_unit]
    intro x
    match x with
    | ⟨0, _⟩ => show win13_2.index t 0 * 512 ≤ (i 0 : Nat) ∧ (i 0 : Nat) < win13_2.index t 0 * 512 + 512; rw [hi.1]; omega
    | ⟨1, _⟩ => show win13_2.index t 1 * 4096 ≤ (i 1 : Nat) ∧ (i 1 : Nat) < win13_2.index t 1 * 4096 + 4096; rw [hi.2]; omega

end Cert.Kernel2Ideal.Hand

end
-- ==== Proof.Attention.lean ====
module

public import proofs.«01_k».proof.Proof.Gen.Kernel2Ideal.Frame.Region8
public import proofs.«01_k».proof.Proof.Zero
public import Idealize.ShloMosaic.Lib.Pipeline.Value
public import Idealize.ShloMosaic.Lib.StableHlo.Run
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

theorem ix8_0 : ∀ t : Fin cfg8.N, win8_0.index t 0 = t.val / 32 * 8 + t.val % 8 ∧ win8_0.index t 1 = t.val / 8 % 4 :=
  (by decide +kernel : ∀ t : Fin grid8.N, win8_0.index t 0 = t.val / 32 * 8 + t.val % 8 ∧ win8_0.index t 1 = t.val / 8 % 4)

theorem ix8_1 : ∀ t : Fin cfg8.N, win8_1.index t 0 = t.val / 32 ∧ win8_1.index t 1 = t.val / 8 % 4 :=
  (by decide +kernel : ∀ t : Fin grid8.N, win8_1.index t 0 = t.val / 32 ∧ win8_1.index t 1 = t.val / 8 % 4)

theorem ix8_2 : ∀ t : Fin cfg8.N, win8_2.index t 0 = t.val / 32 ∧ win8_2.index t 1 = 4 + t.val / 8 % 4 :=
  (by decide +kernel : ∀ t : Fin grid8.N, win8_2.index t 0 = t.val / 32 ∧ win8_2.index t 1 = 4 + t.val / 8 % 4)

theorem ix8_3 : ∀ t : Fin cfg8.N, win8_3.index t 0 = t.val / 32 * 8 + t.val % 8 ∧ win8_3.index t 1 = t.val / 8 % 4 :=
  (by decide +kernel : ∀ t : Fin grid8.N, win8_3.index t 0 = t.val / 32 * 8 + t.val % 8 ∧ win8_3.index t 1 = t.val / 8 % 4)

theorem blk8_0 (V : (c : Dev nD) → (b : Ref sig .tc) → Buf (Elt Ideal) ((c : Thread nD τ).loc b)) (c : Dev nD) (t : Fin cfg8.N) (a : Fin 1024) (b : Fin 1024) :
    iblk8 V c 0 t (ix2 a b) = V c main_v29 (ix2 (⟨(t.val / 32 * 8 + t.val % 8) * 1024 + a.val, by have h : t.val < 64 := t.isLt; omega⟩ : Fin 16384) (⟨t.val / 8 % 4 * 1024 + b.val, by have h : t.val < 64 := t.isLt; omega⟩ : Fin 4096)) := by
  have hi := ix8_0 t
  unfold iblk8
  rw [View.read_apply]
  refine congrArg (V c main_v29) (Shape.idx_ext₂ ?_ ?_)
  · show win8_0.index t 0 * 1024 + 1 * a.val = _; rw [hi.1]; simp <;> omega
  · show win8_0.index t 1 * 1024 + 1 * b.val = _; rw [hi.2]; simp <;> omega

theorem blk8_1 (V : (c : Dev nD) → (b : Ref sig .tc) → Buf (Elt Ideal) ((c : Thread nD τ).loc b)) (c : Dev nD) (t : Fin cfg8.N) (a : Fin 256) (b : Fin 1024) :
    iblk8 V c 1 t (ix2 a b) = V c main_v30 (ix2 (⟨t.val / 32 * 256 + a.val, by have h : t.val < 64 := t.isLt; omega⟩ : Fin 512) (⟨t.val / 8 % 4 * 1024 + b.val, by have h : t.val < 64 := t.isLt; omega⟩ : Fin 8192)) := by
  have hi := ix8_1 t
  unfold iblk8
  rw [View.read_apply]
  refine congrArg (V c main_v30) (Shape.idx_ext₂ ?_ ?_)
  · show win8_1.index t 0 * 256 + 1 * a.val = _; rw [hi.1]; simp <;> omega
  · show win8_1.index t 1 * 1024 + 1 * b.val = _; rw [hi.2]; simp <;> omega

theorem blk8_2 (V : (c : Dev nD) → (b : Ref sig .tc) → Buf (Elt Ideal) ((c : Thread nD τ).loc b)) (c : Dev nD) (t : Fin cfg8.N) (a : Fin 256) (b : Fin 1024) :
    iblk8 V c 2 t (ix2 a b) = V c main_v30 (ix2 (⟨t.val / 32 * 256 + a.val, by have h : t.val < 64 := t.isLt; omega⟩ : Fin 512) (⟨4096 + (t.val / 8 % 4 * 1024 + b.val), by have h : t.val < 64 := t.isLt; omega⟩ : Fin 8192)) := by
  have hi := ix8_2 t
  unfold iblk8
  rw [View.read_apply]
  refine congrArg (V c main_v30) (Shape.idx_ext₂ ?_ ?_)
  · show win8_2.index t 0 * 256 + 1 * a.val = _; rw [hi.1]; simp <;> omega
  · show win8_2.index t 1 * 1024 + 1 * b.val = _; rw [hi.2]; simp <;> omega

/-- What call 8 leaves in its result, from its operands. -/
def G8 (x0 : S16384x4096.Idx → EReal) (x1 : S512x8192.Idx → EReal) (x2 : S512x8192.Idx → EReal) : S16384x4096.Idx → EReal := fun i =>
  have r : Fin 16384 := i 0
  have j : Fin 4096 := i 1
  have s : Fin 256 → EReal := fun n => ((∑ d : Fin 1024, x0 (ix2 r (⟨j.val / 1024 * 1024 + d.val, by omega⟩ : Fin 4096)) * x1 (ix2 (⟨r.val / 8192 * 256 + n.val, by omega⟩ : Fin 512) (⟨j.val / 1024 * 1024 + d.val, by omega⟩ : Fin 8192))) * Ideal.ofBits .f32 0x3D000000#32)
  have p : Fin 256 → EReal := fun n => Ideal.exp (s n - Finset.univ.fold max (Ideal.ofBits .f32 0xFF800000#32) s)
  Ideal.div (∑ n, p n * x2 (ix2 (⟨r.val / 8192 * 256 + n.val, by omega⟩ : Fin 512) (⟨4096 + j.val, by omega⟩ : Fin 8192))) (∑ n, p n)

theorem G8_apply (x0 : S16384x4096.Idx → EReal) (x1 : S512x8192.Idx → EReal) (x2 : S512x8192.Idx → EReal) (r : Fin 16384) (j : Fin 4096) : G8 x0 x1 x2 (ix2 r j) = (have s : Fin 256 → EReal := fun n => ((∑ d : Fin 1024, x0 (ix2 r (⟨j.val / 1024 * 1024 + d.val, by omega⟩ : Fin 4096)) * x1 (ix2 (⟨r.val / 8192 * 256 + n.val, by omega⟩ : Fin 512) (⟨j.val / 1024 * 1024 + d.val, by omega⟩ : Fin 8192))) * Ideal.ofBits .f32 0x3D000000#32)
  have p : Fin 256 → EReal := fun n => Ideal.exp (s n - Finset.univ.fold max (Ideal.ofBits .f32 0xFF800000#32) s)
  Ideal.div (∑ n, p n * x2 (ix2 (⟨r.val / 8192 * 256 + n.val, by omega⟩ : Fin 512) (⟨4096 + j.val, by omega⟩ : Fin 8192))) (∑ n, p n)) := rfl

theorem flushed8 (V : (c : Dev nD) → (b : Ref sig .tc) → Buf (Elt Ideal) ((c : Thread nD τ).loc b)) (c : Dev nD) (t : Fin cfg8.N) :
    (dat8 V c).flushed 3 t = ((cfg8.win 3).blk t).view.read (Elt Ideal) (G8 (V c main_v29) (V c main_v30) (V c main_v30)) := by
  show (cfg8.win 3).cut (cfg8.grid.coords t) ((dat8 V c).after 3 t) = _
  rw [after8_3]
  unfold out8_3
  rw [View.canon_unit_zero hz2]
  simp only [View.ld_unit_zero (S := S1024x1024) hz2, View.ld_unit_zero (S := S256x1024) hz2]
  funext y
  rw [View.read_apply]
  obtain ⟨a, b, rfl⟩ : ∃ (a : Fin 1024) (b : Fin 1024), y = ix2 a b := ⟨y 0, y 1, eq_ix2 y⟩
  have hi := ix8_3 t
  have hN : t.val < 64 := t.isLt
  have e : ((View.whole main_v31).slice ((win8 3).rect t)).emb (ix2 a b)
      = (ix2 (⟨(t.val / 32 * 8 + t.val % 8) * 1024 + a.val, by omega⟩ : Fin 16384) (⟨t.val / 8 % 4 * 1024 + b.val, by omega⟩ : Fin 4096) : S16384x4096.Idx) := by
    refine Shape.idx_ext₂ ?_ ?_
    · show win8_3.index t 0 * 1024 + 1 * a.val = _; rw [hi.1]; simp
    · show win8_3.index t 1 * 1024 + 1 * b.val = _; rw [hi.2]; simp
  rw [e]
  show (k8_pay1 (F := Ideal) _ _ _ (ix2 a b) : EReal) = G8 _ _ _ _
  pointwise [k8_pay1]
  simp only [blk8_0, blk8_1, blk8_2]
  rw [G8_apply]
  have e1 : ((t.val / 32 * 8 + t.val % 8) * 1024 + a.val) / 8192 = t.val / 32 := by omega
  have e2 : (t.val / 8 % 4 * 1024 + b.val) / 1024 = t.val / 8 % 4 := by omega
  simp only [e1, e2]

theorem final8 (V : (c : Dev nD) → (b : Ref sig .tc) → Buf (Elt Ideal) ((c : Thread nD τ).loc b)) (c : Dev nD) :
    (dat8 V c).arrAt 3 cfg8.N = G8 (V c main_v29) (V c main_v30) (V c main_v30) :=
  (dat8 V c).arrAt_eq_of_cover 3 _ (fun t _ => flushed8 V c t) fun i => by
    have h0 : (i 0 : Nat) < 16384 := (i 0).isLt
    have h1 : (i 1 : Nat) < 4096 := (i 1).isLt
    obtain ⟨t, ht⟩ : ∃ t : Fin cfg8.N, t.val = (i 0 : Nat) / 8192 * 32 + (i 1 : Nat) / 1024 * 8 + (i 0 : Nat) / 1024 % 8 := ⟨⟨(i 0 : Nat) / 8192 * 32 + (i 1 : Nat) / 1024 * 8 + (i 0 : Nat) / 1024 % 8, by show _ < 64; omega⟩, rfl⟩
    have hi := ix8_3 t
    refine ⟨t, flush8_3 t, ?_⟩
    show i ∈ ((View.whole main_v31).slice (win8_3.rect t)).set
    rw [View.set_slice_whole, Rect.mem_set_unit]
    intro x
    match x with
    | ⟨0, _⟩ => show win8_3.index t 0 * 1024 ≤ (i 0 : Nat) ∧ (i 0 : Nat) < win8_3.index t 0 * 1024 + 1024; rw [hi.1]; omega
    | ⟨1, _⟩ => show win8_3.index t 1 * 1024 ≤ (i 1 : Nat) ∧ (i 1 : Nat) < win8_3.index t 1 * 1024 + 1024; rw [hi.2]; omega

end Cert.Kernel2Ideal.Hand

end
-- ==== Proof.Spec.lean ====
module

public import Idealize.ShloMosaic.Lib.Pointwise
public import Idealize.ShloMosaic.Lib.IdealHost

@[expose] public section

noncomputable section

namespace Cert.Layer

open Idealize.ShloMosaic

/-! The last layer as a function of its arrays, row by row. -/

/-- What the layer reads, each array by its coordinates and each weight at the last layer. -/
structure Args where
  x : Fin 2 → Fin 8192 → Fin 4096 → EReal
  hmf : Fin 16384 → Fin 1024 → EReal
  hmb : Fin 16384 → Fin 1024 → EReal
  hgf : Fin 16384 → Fin 1024 → EReal
  hgb : Fin 16384 → Fin 1024 → EReal
  yc : Fin 16384 → Fin 1024 → EReal
  pm : Fin 16384 → Fin 3072 → EReal
  pg : Fin 16384 → Fin 3072 → EReal
  ph : Fin 16384 → Fin 15360 → EReal
  mem : Fin 2 → Fin 256 → Fin 4096 → EReal
  gains : Fin 4 → Fin 4096 → EReal
  last : Fin 4096 → EReal
  hm : Fin 1024 → EReal
  hg : Fin 1024 → EReal
  wb : Fin 3 → Fin 1024 → Fin 4096 → EReal
  wout : Fin 4096 → Fin 4096 → EReal
  wq : Fin 4096 → Fin 4096 → EReal
  wkv : Fin 4096 → Fin 8192 → EReal
  wo : Fin 4096 → Fin 4096 → EReal
  w1 : Fin 4096 → Fin 16384 → EReal
  w2 : Fin 16384 → Fin 4096 → EReal

/-- The row of a token. -/
abbrev row (b : Fin 2) (s : Fin 8192) : Fin 16384 := ⟨b.val * 8192 + s.val, by omega⟩
/-- A coordinate of the head that coordinate `j` is of. -/
abbrev inHead (j : Fin 1024) (k : Fin 256) : Fin 1024 := ⟨j.val / 256 * 256 + k.val, by omega⟩
abbrev inWide (h : Fin 4) (d : Fin 1024) : Fin 4096 := ⟨h.val * 1024 + d.val, by omega⟩
abbrev keyCol (h : Fin 4) (d : Fin 1024) : Fin 8192 := ⟨h.val * 1024 + d.val, by omega⟩

abbrev eps : EReal := Ideal.ofBits .f32 0x358637BD#32
abbrev c256 : EReal := Ideal.ofBits .f32 0x43800000#32
abbrev c4096 : EReal := Ideal.ofBits .f32 0x45800000#32
abbrev scale : EReal := Ideal.ofBits .f32 0x3D000000#32
abbrev least : EReal := Ideal.ofBits .f32 0xFF800000#32

def gate (x : EReal) : EReal := Ideal.div 1 (1 + Ideal.exp (-x))

def lin {n p : Nat} (f : Fin n → EReal) (w : Fin n → Fin p → EReal) (j : Fin p) : EReal := ∑ k, f k * w k j

/-- The factor of a norm over `n` entries. -/
def inv {n : Nat} (c : EReal) (f : Fin n → EReal) : EReal := Ideal.rsqrt (Ideal.div (∑ k, f k * f k) c + eps)

def rms (f g : Fin 4096 → EReal) (j : Fin 4096) : EReal := f j * inv c4096 f * g j

def headNorm (f g : Fin 1024 → EReal) (j : Fin 1024) : EReal := f j * inv c256 (fun k : Fin 256 => f (inHead j k)) * g j

namespace Args

variable (A : Args)

def ya (r : Fin 16384) (j : Fin 1024) : EReal :=
  headNorm (fun k => A.hmf r k + A.hmb r k) A.hm j * gate (A.pm r ⟨2048 + j.val, by omega⟩)

def yb (r : Fin 16384) (j : Fin 1024) : EReal :=
  headNorm (fun k => A.hgf r k + A.hgb r k) A.hg j * (A.pg r ⟨2048 + j.val, by omega⟩ * gate (A.pg r ⟨2048 + j.val, by omega⟩))

def merged (r : Fin 16384) (j : Fin 4096) : EReal :=
  (gate (A.ph r ⟨3072 + j.val, by omega⟩) * lin (A.ya r) (A.wb 0) j + gate (A.ph r ⟨7168 + j.val, by omega⟩) * lin (A.yb r) (A.wb 1) j)
    + gate (A.ph r ⟨11264 + j.val, by omega⟩) * lin (A.yc r) (A.wb 2) j

/-- The stream after the mixers. -/
def x1 (b : Fin 2) (s : Fin 8192) (j : Fin 4096) : EReal := lin (A.merged (row b s)) A.wout j + A.x b s j

def q (b : Fin 2) (s : Fin 8192) : Fin 4096 → EReal := lin (rms (A.x1 b s) (A.gains 1)) A.wq

def kv (b : Fin 2) (n : Fin 256) : Fin 8192 → EReal := lin (rms (A.mem b n) (A.gains 2)) A.wkv

def score (b : Fin 2) (s : Fin 8192) (h : Fin 4) (n : Fin 256) : EReal :=
  (∑ d : Fin 1024, A.q b s (inWide h d) * A.kv b n (keyCol h d)) * scale

def weight (b : Fin 2) (s : Fin 8192) (h : Fin 4) (n : Fin 256) : EReal :=
  Ideal.exp (A.score b s h n - Finset.univ.fold max least (A.score b s h))

def att (b : Fin 2) (s : Fin 8192) (j : Fin 4096) : EReal :=
  Ideal.div (∑ n, A.weight b s ⟨j.val / 1024, by omega⟩ n * A.kv b n ⟨4096 + j.val, by omega⟩) (∑ n, A.weight b s ⟨j.val / 1024, by omega⟩ n)

/-- The stream after the attention. -/
def x2 (b : Fin 2) (s : Fin 8192) (j : Fin 4096) : EReal := lin (A.att b s) A.wo j + A.x1 b s j

def hid (b : Fin 2) (s : Fin 8192) (j : Fin 16384) : EReal := max (lin (rms (A.x2 b s) (A.gains 3)) A.w1 j) 0

/-- The stream after the MLP. -/
def x3 (b : Fin 2) (s : Fin 8192) (j : Fin 4096) : EReal := lin (fun k => A.hid b s k * A.hid b s k) A.w2 j + A.x2 b s j

def out (b : Fin 2) (s : Fin 8192) : Fin 4096 → EReal := rms (A.x3 b s) A.last

/-- Every array that the attention scores are made of has finite entries. -/
structure Finite : Prop where
  x : ∀ b s j, ∃ r : ℝ, A.x b s j = r
  hmf : ∀ a k, ∃ r : ℝ, A.hmf a k = r
  hmb : ∀ a k, ∃ r : ℝ, A.hmb a k = r
  hgf : ∀ a k, ∃ r : ℝ, A.hgf a k = r
  hgb : ∀ a k, ∃ r : ℝ, A.hgb a k = r
  yc : ∀ a k, ∃ r : ℝ, A.yc a k = r
  pm : ∀ a k, ∃ r : ℝ, A.pm a k = r
  pg : ∀ a k, ∃ r : ℝ, A.pg a k = r
  ph : ∀ a k, ∃ r : ℝ, A.ph a k = r
  mem : ∀ b n j, ∃ r : ℝ, A.mem b n j = r
  gains : ∀ i j, ∃ r : ℝ, A.gains i j = r
  hm : ∀ j, ∃ r : ℝ, A.hm j = r
  hg : ∀ j, ∃ r : ℝ, A.hg j = r
  wb : ∀ n k j, ∃ r : ℝ, A.wb n k j = r
  wout : ∀ k j, ∃ r : ℝ, A.wout k j = r
  wq : ∀ k j, ∃ r : ℝ, A.wq k j = r
  wkv : ∀ k j, ∃ r : ℝ, A.wkv k j = r

end Args

/-! Finite entries stay finite. -/

abbrev IsReal (x : EReal) : Prop := ∃ r : ℝ, x = r

theorem IsReal.add {x y : EReal} : IsReal x → IsReal y → IsReal (x + y) := by
  rintro ⟨a, rfl⟩ ⟨b, rfl⟩; exact ⟨a + b, by push_cast; rfl⟩

theorem IsReal.mul {x y : EReal} : IsReal x → IsReal y → IsReal (x * y) := by
  rintro ⟨a, rfl⟩ ⟨b, rfl⟩; exact ⟨a * b, by push_cast; rfl⟩

theorem coe_sum {n : Nat} (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

theorem IsReal.sum {n : Nat} {f : Fin n → EReal} (h : ∀ k, IsReal (f k)) : IsReal (∑ k, f k) := by
  choose g hg using h
  exact ⟨∑ k, g k, by rw [coe_sum]; exact Finset.sum_congr rfl fun k _ => hg k⟩

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem isReal_gate {x : EReal} : IsReal x → IsReal (gate x) := by
  rintro ⟨a, rfl⟩
  refine ⟨1 / (1 + Real.exp (-a)), ?_⟩
  have h : (1 + Real.exp (-a)) ≠ 0 := by positivity
  rw [← div_coe 1 _ h]
  unfold gate
  rw [← EReal.coe_neg]
  show Ideal.div 1 (1 + ((Real.exp (-a) : ℝ) : EReal)) = _
  push_cast; rfl

theorem IsReal.lin {n p : Nat} {f : Fin n → EReal} {w : Fin n → Fin p → EReal} (hf : ∀ k, IsReal (f k)) (hw : ∀ k j, IsReal (w k j)) (j : Fin p) :
    IsReal (lin f w j) := IsReal.sum fun k => (hf k).mul (hw k j)

theorem eps_pos : ∃ e : ℝ, 0 < e ∧ eps = e := by
  refine ⟨_, ?_, by unfold eps; simp [Ideal.ofBits, Ideal.ieee, -EReal.coe_mul]; rfl⟩
  norm_num

theorem c256_eq : c256 = ((256 : ℝ) : EReal) := by
  unfold c256; simp [Ideal.ofBits, Ideal.ieee, -EReal.coe_mul]; norm_num

theorem c4096_eq : c4096 = ((4096 : ℝ) : EReal) := by
  unfold c4096; simp [Ideal.ofBits, Ideal.ieee, -EReal.coe_mul]; norm_num

theorem scale_real : IsReal scale := by
  unfold scale; exact ⟨_, by simp [Ideal.ofBits, Ideal.ieee, -EReal.coe_mul]; rfl⟩

theorem least_eq : least = ⊥ := by
  unfold least; simp [Ideal.ofBits, Ideal.ieee]

theorem isReal_inv {n : Nat} {c : ℝ} (hc : 0 < c) {f : Fin n → EReal} (h : ∀ k, IsReal (f k)) : IsReal (inv (c : EReal) f) := by
  choose g hg using h
  obtain ⟨e, he, hE⟩ := eps_pos
  unfold inv
  have : (∑ k, f k * f k) = ((∑ k, g k * g k : ℝ) : EReal) := by
    rw [coe_sum]; exact Finset.sum_congr rfl fun k _ => by rw [hg k, EReal.coe_mul]
  rw [this, div_coe _ _ hc.ne', hE, ← EReal.coe_add]
  have hp : 0 < (∑ k, g k * g k) / c + e := by
    have : 0 ≤ ∑ k, g k * g k := Finset.sum_nonneg fun k _ => mul_self_nonneg _
    positivity
  refine ⟨(Real.sqrt ((∑ k, g k * g k) / c + e))⁻¹, ?_⟩
  show (if (∑ k, g k * g k) / c + e < 0 then (⊥ : EReal) else if (∑ k, g k * g k) / c + e = 0 then ⊤ else _) = _
  rw [if_neg hp.not_gt, if_neg hp.ne']

theorem isReal_rms {f g : Fin 4096 → EReal} (hf : ∀ k, IsReal (f k)) (hg : ∀ k, IsReal (g k)) (j : Fin 4096) : IsReal (rms f g j) := by
  unfold rms; rw [c4096_eq]
  exact ((hf j).mul (isReal_inv (by norm_num) hf)).mul (hg j)

theorem isReal_headNorm {f g : Fin 1024 → EReal} (hf : ∀ k, IsReal (f k)) (hg : ∀ k, IsReal (g k)) (j : Fin 1024) : IsReal (headNorm f g j) := by
  unfold headNorm; rw [c256_eq]
  exact ((hf j).mul (isReal_inv (by norm_num) fun k => hf _)).mul (hg j)

variable {A : Args}

theorem isReal_merged (h : A.Finite) (r : Fin 16384) (j : Fin 4096) : IsReal (A.merged r j) := by
  have ha : ∀ k, IsReal (A.ya r k) := fun k => (isReal_headNorm (fun _ => IsReal.add (h.hmf _ _) (h.hmb _ _)) h.hm k).mul (isReal_gate (h.pm _ _))
  have hb : ∀ k, IsReal (A.yb r k) := fun k => (isReal_headNorm (fun _ => IsReal.add (h.hgf _ _) (h.hgb _ _)) h.hg k).mul (IsReal.mul (h.pg _ _) (isReal_gate (h.pg _ _)))
  exact (((isReal_gate (h.ph _ _)).mul (IsReal.lin ha (h.wb 0) j)).add ((isReal_gate (h.ph _ _)).mul (IsReal.lin hb (h.wb 1) j))).add
    ((isReal_gate (h.ph _ _)).mul (IsReal.lin (h.yc r) (h.wb 2) j))

theorem isReal_kv (h : A.Finite) (b : Fin 2) (n : Fin 256) (j : Fin 8192) : IsReal (A.kv b n j) :=
  IsReal.lin (isReal_rms (h.mem b n) (h.gains 2)) h.wkv j

theorem isReal_score (h : A.Finite) (b : Fin 2) (s : Fin 8192) (i : Fin 4) (n : Fin 256) : IsReal (A.score b s i n) := by
  have h1 : ∀ j, IsReal (A.x1 b s j) := fun j => (IsReal.lin (isReal_merged h _) h.wout j).add (h.x b s j)
  exact (IsReal.sum fun d => (IsReal.lin (isReal_rms h1 (h.gains 1)) h.wq _).mul (isReal_kv h b n _)).mul scale_real

/-- The greatest of finitely many finite entries, of which there is one, is finite. -/
theorem isReal_fold {f : Fin 256 → EReal} (h : ∀ k, IsReal (f k)) : IsReal (Finset.univ.fold max least f) := by
  have hlt : Finset.univ.fold max least f < ⊤ := by
    rw [Finset.fold_max_lt, least_eq]
    exact ⟨bot_lt_top, fun k _ => by obtain ⟨r, e⟩ := h k; rw [e]; exact EReal.coe_lt_top r⟩
  have hgt : (⊥ : EReal) < Finset.univ.fold max least f := by
    rw [Finset.lt_fold_max]
    exact Or.inr ⟨0, Finset.mem_univ _, by obtain ⟨r, e⟩ := h 0; rw [e]; exact EReal.bot_lt_coe r⟩
  exact ⟨_, (EReal.coe_toReal hlt.ne hgt.ne').symm⟩

/-- The weighted mean may be divided by the sum of the weights before or after the sum. -/
theorem mean_comm (h : A.Finite) (b : Fin 2) (s : Fin 8192) (i : Fin 4) (j : Fin 8192) :
    ∑ n, A.kv b n j * Ideal.div (A.weight b s i n) (∑ n, A.weight b s i n)
      = Ideal.div (∑ n, A.weight b s i n * A.kv b n j) (∑ n, A.weight b s i n) := by
  obtain ⟨M, hM⟩ := isReal_fold (isReal_score h b s i)
  have hs := isReal_score h b s i
  have hv := fun n => isReal_kv h b n j
  choose v hv using hv
  choose t ht using hs
  have hw : ∀ n, A.weight b s i n = ((Real.exp (t n - M) : ℝ) : EReal) := fun n => by
    unfold Args.weight; rw [hM, ht n, ← EReal.coe_sub]; rfl
  have hL : (∑ n : Fin 256, Real.exp (t n - M)) ≠ 0 :=
    (Finset.sum_pos (fun n _ => Real.exp_pos _) ⟨0, Finset.mem_univ _⟩).ne'
  simp only [hw, hv, ← coe_sum, ← EReal.coe_mul]
  rw [div_coe _ _ hL]
  simp only [div_coe _ _ hL, ← EReal.coe_mul]
  rw [← coe_sum]
  congr 1
  rw [Finset.sum_div]
  exact Finset.sum_congr rfl fun n _ => by ring

end Cert.Layer

end
-- ==== Proof.Values2.lean ====
module

public import proofs.«01_k».proof.Proof.Run2
public import proofs.«01_k».proof.Proof.HeadNorms
public import proofs.«01_k».proof.Proof.Merge
public import proofs.«01_k».proof.Proof.Projections
public import proofs.«01_k».proof.Proof.Norms
public import proofs.«01_k».proof.Proof.Attention
public import proofs.«01_k».proof.Proof.Spec

@[expose] public section

set_option maxRecDepth 16384

noncomputable section

namespace Cert.Kernel2Ideal.Hand

open Cert.Kernel2Ideal Cert.Kernel2Ideal.Gen Cert.Layer Idealize.ShloMosaic Idealize.ShloMosaic.TcCoe Idealize.SL.Sem
open Idealize.ShloMosaic.Pipeline (Dat)

/-! The calls in the layer's terms. -/

theorem G0_ya (A : Args) {x0 x1 : S16384x1024.Idx → EReal} {x2 : S16384x3072.Idx → EReal} {x3 : S1x1024.Idx → EReal}
    (h0 : ∀ r j, x0 (ix2 r j) = A.hmf r j) (h1 : ∀ r j, x1 (ix2 r j) = A.hmb r j) (h2 : ∀ r j, x2 (ix2 r j) = A.pm r j) (h3 : ∀ j, x3 (ix2 0 j) = A.hm j)
    (r : Fin 16384) (j : Fin 1024) : G0 x0 x1 x2 x3 (ix2 r j) = A.ya r j := by
  rw [G0_apply]
  simp only [h0, h1, h2, h3, zero_sub]
  rfl

theorem G1_yb (A : Args) {x0 x1 : S16384x1024.Idx → EReal} {x2 : S16384x3072.Idx → EReal} {x3 : S1x1024.Idx → EReal}
    (h0 : ∀ r j, x0 (ix2 r j) = A.hgf r j) (h1 : ∀ r j, x1 (ix2 r j) = A.hgb r j) (h2 : ∀ r j, x2 (ix2 r j) = A.pg r j) (h3 : ∀ j, x3 (ix2 0 j) = A.hg j)
    (r : Fin 16384) (j : Fin 1024) : G1 x0 x1 x2 x3 (ix2 r j) = A.yb r j := by
  rw [G1_apply]
  simp only [h0, h1, h2, h3, zero_sub]
  rfl

theorem G2_merged (A : Args) {x0 x1 x2 : S16384x1024.Idx → EReal} {x3 : S16384x15360.Idx → EReal} {x6 : S2x3x1024x4096.Idx → EReal}
    (h0 : ∀ r j, x0 (ix2 r j) = A.ya r j) (h1 : ∀ r j, x1 (ix2 r j) = A.yb r j) (h2 : ∀ r j, x2 (ix2 r j) = A.yc r j) (h3 : ∀ r j, x3 (ix2 r j) = A.ph r j)
    (h6 : ∀ n k j, x6 (ix4 1 n k j) = A.wb n k j) (r : Fin 16384) (j : Fin 4096) : G2 x0 x1 x2 x3 x3 x3 x6 (ix2 r j) = A.merged r j := by
  rw [G2_apply]
  simp only [h0, h1, h2, h3, h6, zero_sub]
  rfl

theorem G4_rms {x0 : S16384x4096.Idx → EReal} {x1 : S1x4096.Idx → EReal} (r : Fin 16384) (f g : Fin 4096 → EReal)
    (h0 : ∀ k, x0 (ix2 r k) = f k) (h1 : ∀ k, x1 (ix2 0 k) = g k) (j : Fin 4096) : G4 x0 x1 (ix2 r j) = rms f g j := by
  show x0 (ix2 r j) * Ideal.rsqrt (Ideal.div (∑ k : Fin 4096, x0 (ix2 r k) * x0 (ix2 r k)) (Ideal.ofBits .f32 0x45800000#32) + Ideal.ofBits .f32 0x358637BD#32) * x1 (ix2 0 j) = _
  simp only [h0, h1]
  rfl

theorem G5_rms {x0 : S512x4096.Idx → EReal} {x1 : S1x4096.Idx → EReal} (r : Fin 512) (f g : Fin 4096 → EReal)
    (h0 : ∀ k, x0 (ix2 r k) = f k) (h1 : ∀ k, x1 (ix2 0 k) = g k) (j : Fin 4096) : G5 x0 x1 (ix2 r j) = rms f g j := by
  show x0 (ix2 r j) * Ideal.rsqrt (Ideal.div (∑ k : Fin 4096, x0 (ix2 r k) * x0 (ix2 r k)) (Ideal.ofBits .f32 0x45800000#32) + Ideal.ofBits .f32 0x358637BD#32) * x1 (ix2 0 j) = _
  simp only [h0, h1]
  rfl

theorem G10_rms {x0 : S16384x4096.Idx → EReal} {x1 : S1x4096.Idx → EReal} (r : Fin 16384) (f g : Fin 4096 → EReal)
    (h0 : ∀ k, x0 (ix2 r k) = f k) (h1 : ∀ k, x1 (ix2 0 k) = g k) (j : Fin 4096) : G10 x0 x1 (ix2 r j) = rms f g j := by
  show x0 (ix2 r j) * Ideal.rsqrt (Ideal.div (∑ k : Fin 4096, x0 (ix2 r k) * x0 (ix2 r k)) (Ideal.ofBits .f32 0x45800000#32) + Ideal.ofBits .f32 0x358637BD#32) * x1 (ix2 0 j) = _
  simp only [h0, h1]
  rfl

theorem G13_rms {x0 : S16384x4096.Idx → EReal} {x1 : S1x4096.Idx → EReal} (r : Fin 16384) (f g : Fin 4096 → EReal)
    (h0 : ∀ k, x0 (ix2 r k) = f k) (h1 : ∀ k, x1 (ix2 0 k) = g k) (j : Fin 4096) : G13 x0 x1 (ix2 r j) = rms f g j := by
  show x0 (ix2 r j) * Ideal.rsqrt (Ideal.div (∑ k : Fin 4096, x0 (ix2 r k) * x0 (ix2 r k)) (Ideal.ofBits .f32 0x45800000#32) + Ideal.ofBits .f32 0x358637BD#32) * x1 (ix2 0 j) = _
  simp only [h0, h1]
  rfl

theorem G3_lin {x0 : S16384x4096.Idx → EReal} {x1 : S2x4096x4096.Idx → EReal} {x2 : S16384x4096.Idx → EReal} (r : Fin 16384) (f : Fin 4096 → EReal) (w : Fin 4096 → Fin 4096 → EReal) (e : Fin 4096 → EReal)
    (h0 : ∀ k, x0 (ix2 r k) = f k) (h1 : ∀ k j, x1 (ix3 1 k j) = w k j) (h2 : ∀ j, x2 (ix2 r j) = e j) (j : Fin 4096) : G3 x0 x1 x2 (ix2 r j) = lin f w j + e j := by
  show (∑ k : Fin 4096, x0 (ix2 r k) * x1 (ix3 1 k j)) + x2 (ix2 r j) = _
  simp only [h0, h1, h2]
  rfl

theorem G6_lin {x0 : S16384x4096.Idx → EReal} {x1 : S2x4096x4096.Idx → EReal} (r : Fin 16384) (f : Fin 4096 → EReal) (w : Fin 4096 → Fin 4096 → EReal)
    (h0 : ∀ k, x0 (ix2 r k) = f k) (h1 : ∀ k j, x1 (ix3 1 k j) = w k j) (j : Fin 4096) : G6 x0 x1 (ix2 r j) = lin f w j := by
  show (∑ k : Fin 4096, x0 (ix2 r k) * x1 (ix3 1 k j)) = _
  simp only [h0, h1]
  rfl

theorem G7_lin {x0 : S512x4096.Idx → EReal} {x1 : S2x4096x8192.Idx → EReal} (r : Fin 512) (f : Fin 4096 → EReal) (w : Fin 4096 → Fin 8192 → EReal)
    (h0 : ∀ k, x0 (ix2 r k) = f k) (h1 : ∀ k j, x1 (ix3 1 k j) = w k j) (j : Fin 8192) : G7 x0 x1 (ix2 r j) = lin f w j := by
  show (∑ k : Fin 4096, x0 (ix2 r k) * x1 (ix3 1 k j)) = _
  simp only [h0, h1]
  rfl

theorem G9_lin {x0 : S16384x4096.Idx → EReal} {x1 : S2x4096x4096.Idx → EReal} {x2 : S16384x4096.Idx → EReal} (r : Fin 16384) (f : Fin 4096 → EReal) (w : Fin 4096 → Fin 4096 → EReal) (e : Fin 4096 → EReal)
    (h0 : ∀ k, x0 (ix2 r k) = f k) (h1 : ∀ k j, x1 (ix3 1 k j) = w k j) (h2 : ∀ j, x2 (ix2 r j) = e j) (j : Fin 4096) : G9 x0 x1 x2 (ix2 r j) = lin f w j + e j := by
  show (∑ k : Fin 4096, x0 (ix2 r k) * x1 (ix3 1 k j)) + x2 (ix2 r j) = _
  simp only [h0, h1, h2]
  rfl

theorem G12_lin {x0 : S16384x16384.Idx → EReal} {x1 : S2x16384x4096.Idx → EReal} {x2 : S16384x4096.Idx → EReal} (r : Fin 16384) (f : Fin 16384 → EReal) (w : Fin 16384 → Fin 4096 → EReal) (e : Fin 4096 → EReal)
    (h0 : ∀ k, x0 (ix2 r k) = f k) (h1 : ∀ k j, x1 (ix3 1 k j) = w k j) (h2 : ∀ j, x2 (ix2 r j) = e j) (j : Fin 4096) : G12 x0 x1 x2 (ix2 r j) = lin f w j + e j := by
  show (∑ k : Fin 16384, x0 (ix2 r k) * x1 (ix3 1 k j)) + x2 (ix2 r j) = _
  simp only [h0, h1, h2]
  rfl

theorem G11_lin {x0 : S16384x4096.Idx → EReal} {x1 : S2x4096x16384.Idx → EReal} (r : Fin 16384) (f : Fin 4096 → EReal) (w : Fin 4096 → Fin 16384 → EReal)
    (h0 : ∀ k, x0 (ix2 r k) = f k) (h1 : ∀ k j, x1 (ix3 1 k j) = w k j) (j : Fin 16384) : G11 x0 x1 (ix2 r j) = max (lin f w j) 0 * max (lin f w j) 0 := by
  show max (∑ k : Fin 4096, x0 (ix2 r k) * x1 (ix3 1 k j)) 0 * max (∑ k : Fin 4096, x0 (ix2 r k) * x1 (ix3 1 k j)) 0 = _
  simp only [h0, h1]
  rfl

theorem G8_att (A : Args) {x0 : S16384x4096.Idx → EReal} {x1 : S512x8192.Idx → EReal}
    (b : Fin 2) (s : Fin 8192) (h0 : ∀ j, x0 (ix2 (row b s) j) = A.q b s j) (h1 : ∀ (n : Fin 256) j, x1 (ix2 (⟨b.val * 256 + n.val, by omega⟩ : Fin 512) j) = A.kv b n j)
    (j : Fin 4096) : G8 x0 x1 x1 (ix2 (row b s) j) = A.att b s j := by
  have hb : ∀ n : Fin 256, (⟨(row b s).val / 8192 * 256 + n.val, by have := (row b s).isLt; omega⟩ : Fin 512) = ⟨b.val * 256 + n.val, by omega⟩ :=
    fun n => Fin.ext (by show (b.val * 8192 + s.val) / 8192 * 256 + n.val = b.val * 256 + n.val; omega)
  rw [G8_apply]
  simp only [hb, h0, h1]
  rfl

/-- An array of two sequences by its rows. -/
theorem rows_x (x : FVec Ideal S2x8192x4096 .f32) (h : S2x8192x4096.ShapeCasts S16384x4096) (b : Fin 2) (s : Fin 8192) (j : Fin 4096) :
    shapeCast S16384x4096 x h (ix2 (row b s) j) = x (ix3 b s j) := by
  have h0 : ∀ r, row b s = r → (⟨r.val / 8192, by omega⟩ : Fin 2) = b := fun r e => by subst e; exact Fin.ext (by show (b.val * 8192 + s.val) / 8192 = b.val; omega)
  have h1 : ∀ r, row b s = r → (⟨r.val % 8192, by omega⟩ : Fin 8192) = s := fun r e => by subst e; exact Fin.ext (by show (b.val * 8192 + s.val) % 8192 = s.val; omega)
  generalize hr : row b s = r
  pointwise
  rw [h0 r hr, h1 r hr]

theorem rows_mem (x : FVec Ideal S2x256x4096 .f32) (h : S2x256x4096.ShapeCasts S512x4096) (b : Fin 2) (s : Fin 256) (j : Fin 4096) :
    shapeCast S512x4096 x h (ix2 (⟨b.val * 256 + s.val, by omega⟩ : Fin 512) j) = x (ix3 b s j) := by
  have h0 : ∀ r : Fin 512, (⟨b.val * 256 + s.val, by omega⟩ : Fin 512) = r → (⟨r.val / 256, by omega⟩ : Fin 2) = b := fun r e => by subst e; exact Fin.ext (by show (b.val * 256 + s.val) / 256 = b.val; omega)
  have h1 : ∀ r : Fin 512, (⟨b.val * 256 + s.val, by omega⟩ : Fin 512) = r → (⟨r.val % 256, by omega⟩ : Fin 256) = s := fun r e => by subst e; exact Fin.ext (by show (b.val * 256 + s.val) % 256 = s.val; omega)
  generalize hr : (⟨b.val * 256 + s.val, by omega⟩ : Fin 512) = r
  pointwise
  rw [h0 r hr, h1 r hr]

variable (m : (ℓ : Loc nD τ sig) → Buf (Elt Ideal) ℓ) (ρ : Dev nD → PrngReg)

/-- The kernel's arrays. -/
def kargs (c : Dev nD) : Args where
  x b s j := m ((c : Thread nD τ).loc main_arg0) (ix3 b s j)
  hmf r j := m ((c : Thread nD τ).loc main_arg1) (ix2 r j)
  hmb r j := m ((c : Thread nD τ).loc main_arg2) (ix2 r j)
  hgf r j := m ((c : Thread nD τ).loc main_arg3) (ix2 r j)
  hgb r j := m ((c : Thread nD τ).loc main_arg4) (ix2 r j)
  yc r j := m ((c : Thread nD τ).loc main_arg5) (ix2 r j)
  pm r j := m ((c : Thread nD τ).loc main_arg6) (ix2 r j)
  pg r j := m ((c : Thread nD τ).loc main_arg7) (ix2 r j)
  ph r j := m ((c : Thread nD τ).loc main_arg8) (ix2 r j)
  mem b n j := m ((c : Thread nD τ).loc main_arg9) (ix3 b n j)
  gains i j := m ((c : Thread nD τ).loc main_arg10) (ix3 1 i j)
  last j := m ((c : Thread nD τ).loc main_arg11) (ix1 j)
  hm j := m ((c : Thread nD τ).loc main_arg12) (ix2 1 j)
  hg j := m ((c : Thread nD τ).loc main_arg13) (ix2 1 j)
  wb n k j := m ((c : Thread nD τ).loc main_arg14) (ix4 1 n k j)
  wout k j := m ((c : Thread nD τ).loc main_arg15) (ix3 1 k j)
  wq k j := m ((c : Thread nD τ).loc main_arg16) (ix3 1 k j)
  wkv k j := m ((c : Thread nD τ).loc main_arg17) (ix3 1 k j)
  wo k j := m ((c : Thread nD τ).loc main_arg18) (ix3 1 k j)
  w1 k j := m ((c : Thread nD τ).loc main_arg19) (ix3 1 k j)
  w2 k j := m ((c : Thread nD τ).loc main_arg20) (ix3 1 k j)

/-! The arrays the calls take, as the host code makes them of the arguments. -/

theorem W1_v0 (c : Dev nD) : W1 m ρ c main_v0 = truncf (F := Ideal) .bf16 (m ((c : Thread nD τ).loc main_arg14)) bitsLt_bf16_f32 := by
  unfold W1
  show StableHlo.after hostOps0 _ _ = _
  after_results <;> rfl

theorem W1_v1 (c : Dev nD) : W1 m ρ c main_v1 = truncf (F := Ideal) .bf16 (m ((c : Thread nD τ).loc main_arg15)) bitsLt_bf16_f32 := by
  unfold W1
  show StableHlo.after hostOps0 _ _ = _
  after_results <;> rfl

theorem W1_v2 (c : Dev nD) : W1 m ρ c main_v2 = truncf (F := Ideal) .bf16 (m ((c : Thread nD τ).loc main_arg16)) bitsLt_bf16_f32 := by
  unfold W1
  show StableHlo.after hostOps0 _ _ = _
  after_results <;> rfl

theorem W1_v3 (c : Dev nD) : W1 m ρ c main_v3 = truncf (F := Ideal) .bf16 (m ((c : Thread nD τ).loc main_arg17)) bitsLt_bf16_f32 := by
  unfold W1
  show StableHlo.after hostOps0 _ _ = _
  after_results <;> rfl

theorem W1_v4 (c : Dev nD) : W1 m ρ c main_v4 = truncf (F := Ideal) .bf16 (m ((c : Thread nD τ).loc main_arg18)) bitsLt_bf16_f32 := by
  unfold W1
  show StableHlo.after hostOps0 _ _ = _
  after_results <;> rfl

theorem W1_v5 (c : Dev nD) : W1 m ρ c main_v5 = truncf (F := Ideal) .bf16 (m ((c : Thread nD τ).loc main_arg19)) bitsLt_bf16_f32 := by
  unfold W1
  show StableHlo.after hostOps0 _ _ = _
  after_results <;> rfl

theorem W1_v6 (c : Dev nD) : W1 m ρ c main_v6 = truncf (F := Ideal) .bf16 (m ((c : Thread nD τ).loc main_arg20)) bitsLt_bf16_f32 := by
  unfold W1
  show StableHlo.after hostOps0 _ _ = _
  after_results <;> rfl

theorem W1_v7 (c : Dev nD) : W1 m ρ c main_v7 = shapeCast S16384x4096 (m ((c : Thread nD τ).loc main_arg0)) shapeCasts_S2x8192x4096_S16384x4096 := by
  unfold W1
  show StableHlo.after hostOps0 _ _ = _
  after_results <;> rfl

theorem W1_v8 (c : Dev nD) : W1 m ρ c main_v8 = shapeCast S512x4096 (m ((c : Thread nD τ).loc main_arg9)) shapeCasts_S2x256x4096_S512x4096 := by
  unfold W1
  show StableHlo.after hostOps0 _ _ = _
  after_results <;> rfl

theorem W1_v10 (c : Dev nD) : W1 m ρ c main_v10 = shapeCast S4x4096 (extractStridedSlice S1x4x4096 ![1, 0, 0] (m ((c : Thread nD τ).loc main_arg10)) slices_S2x4x4096_S1x4x4096_1_0_0) shapeCasts_S1x4x4096_S4x4096 := by
  unfold W1
  show StableHlo.after hostOps0 _ _ = _
  after_results <;> rfl

theorem W1_v13 (c : Dev nD) : W1 m ρ c main_v13 = shapeCast S1x1024 (shapeCast S1024 (extractStridedSlice S1x1024 ![1, 0] (m ((c : Thread nD τ).loc main_arg12)) slices_S2x1024_S1x1024_1_0) shapeCasts_S1x1024_S1024) shapeCasts_S1024_S1x1024 := by
  unfold W1
  show StableHlo.after hostOps0 _ _ = _
  after_results <;> rfl

theorem W3_v17 (c : Dev nD) : W3 m ρ c main_v17 = shapeCast S1x1024 (shapeCast S1024 (extractStridedSlice S1x1024 ![1, 0] (W2 m ρ c main_arg13) slices_S2x1024_S1x1024_1_0) shapeCasts_S1x1024_S1024) shapeCasts_S1024_S1x1024 := by
  unfold W3
  show StableHlo.after hostOps1 _ _ = _
  after_results <;> rfl

theorem W7_v23 (c : Dev nD) : W7 m ρ c main_v23 = shapeCast S1x4096 (shapeCast S4096 (extractStridedSlice S1x4096 ![1, 0] (W6 m ρ c main_v10) slices_S4x4096_S1x4096_1_0) shapeCasts_S1x4096_S4096) shapeCasts_S4096_S1x4096 := by
  unfold W7
  show StableHlo.after hostOps4 _ _ = _
  after_results <;> rfl

theorem W9_v27 (c : Dev nD) : W9 m ρ c main_v27 = shapeCast S1x4096 (shapeCast S4096 (extractStridedSlice S1x4096 ![2, 0] (W8 m ρ c main_v10) slices_S4x4096_S1x4096_2_0) shapeCasts_S1x4096_S4096) shapeCasts_S4096_S1x4096 := by
  unfold W9
  show StableHlo.after hostOps5 _ _ = _
  after_results <;> rfl

theorem W15_v35 (c : Dev nD) : W15 m ρ c main_v35 = shapeCast S1x4096 (shapeCast S4096 (extractStridedSlice S1x4096 ![3, 0] (W14 m ρ c main_v10) slices_S4x4096_S1x4096_3_0) shapeCasts_S1x4096_S4096) shapeCasts_S4096_S1x4096 := by
  unfold W15
  show StableHlo.after hostOps10 _ _ = _
  after_results <;> rfl

theorem W19_v39 (c : Dev nD) : W19 m ρ c main_v39 = shapeCast S1x4096 (W18 m ρ c main_arg11) shapeCasts_S4096_S1x4096 := by
  unfold W19
  show StableHlo.after hostOps13 _ _ = _
  after_results <;> rfl

theorem W21_v41 (c : Dev nD) : W21 m ρ c main_v41 = shapeCast S2x8192x4096 (W20 m ρ c main_v40) shapeCasts_S16384x4096_S2x8192x4096 := by
  unfold W21
  show StableHlo.after hostOps14 _ _ = _
  after_results <;> rfl

/-! The same at one index. -/

theorem v0_at (c : Dev nD) (n : Fin 3) (k : Fin 1024) (j : Fin 4096) : (W1 m ρ c main_v0 : S2x3x1024x4096.Idx → EReal) (ix4 1 n k j) = (kargs m c).wb n k j := by
  rw [W1_v0]
  rfl

theorem v1_at (c : Dev nD) (k : Fin 4096) (j : Fin 4096) : (W1 m ρ c main_v1 : S2x4096x4096.Idx → EReal) (ix3 1 k j) = (kargs m c).wout k j := by
  rw [W1_v1]
  rfl

theorem v2_at (c : Dev nD) (k : Fin 4096) (j : Fin 4096) : (W1 m ρ c main_v2 : S2x4096x4096.Idx → EReal) (ix3 1 k j) = (kargs m c).wq k j := by
  rw [W1_v2]
  rfl

theorem v3_at (c : Dev nD) (k : Fin 4096) (j : Fin 8192) : (W1 m ρ c main_v3 : S2x4096x8192.Idx → EReal) (ix3 1 k j) = (kargs m c).wkv k j := by
  rw [W1_v3]
  rfl

theorem v4_at (c : Dev nD) (k : Fin 4096) (j : Fin 4096) : (W1 m ρ c main_v4 : S2x4096x4096.Idx → EReal) (ix3 1 k j) = (kargs m c).wo k j := by
  rw [W1_v4]
  rfl

theorem v5_at (c : Dev nD) (k : Fin 4096) (j : Fin 16384) : (W1 m ρ c main_v5 : S2x4096x16384.Idx → EReal) (ix3 1 k j) = (kargs m c).w1 k j := by
  rw [W1_v5]
  rfl

theorem v6_at (c : Dev nD) (k : Fin 16384) (j : Fin 4096) : (W1 m ρ c main_v6 : S2x16384x4096.Idx → EReal) (ix3 1 k j) = (kargs m c).w2 k j := by
  rw [W1_v6]
  rfl

theorem v7_at (c : Dev nD) (b : Fin 2) (s : Fin 8192) (j : Fin 4096) : (W1 m ρ c main_v7 : S16384x4096.Idx → EReal) (ix2 (row b s) j) = (kargs m c).x b s j := by
  rw [W1_v7]
  exact rows_x (m ((c : Thread nD τ).loc main_arg0)) _ b s j

theorem v8_at (c : Dev nD) (b : Fin 2) (n : Fin 256) (j : Fin 4096) : (W1 m ρ c main_v8 : S512x4096.Idx → EReal) (ix2 (⟨b.val * 256 + n.val, by omega⟩ : Fin 512) j) = (kargs m c).mem b n j := by
  rw [W1_v8]
  exact rows_mem (m ((c : Thread nD τ).loc main_arg9)) _ b n j

theorem v10_at (c : Dev nD) (i : Fin 4) (j : Fin 4096) : (W1 m ρ c main_v10 : S4x4096.Idx → EReal) (ix2 i j) = (kargs m c).gains i j := by
  rw [W1_v10]
  pointwise
  rfl

theorem v13_at (c : Dev nD) (j : Fin 1024) : (W1 m ρ c main_v13 : S1x1024.Idx → EReal) (ix2 0 j) = (kargs m c).hm j := by
  rw [W1_v13]
  pointwise
  rfl

theorem v17_at (c : Dev nD) (j : Fin 1024) : (W3 m ρ c main_v17 : S1x1024.Idx → EReal) (ix2 0 j) = (kargs m c).hg j := by
  rw [W3_v17, W2_args m ρ c main_arg13 (by decide)]
  pointwise
  rfl

theorem v23_at (c : Dev nD) (j : Fin 4096) : (W7 m ρ c main_v23 : S1x4096.Idx → EReal) (ix2 0 j) = (kargs m c).gains 1 j := by
  rw [W7_v23, show W6 m ρ c main_v10 = W1 m ρ c main_v10 from (W6_of m ρ c main_v10 (by decide)).trans ((W5_of m ρ c main_v10 (by decide)).trans ((W4_of m ρ c main_v10 (by decide)).trans ((W3_of m ρ c main_v10 (by decide)).trans (W2_of m ρ c main_v10 (by decide)))))]
  refine Eq.trans ?_ (v10_at m ρ c 1 j)
  pointwise

theorem v27_at (c : Dev nD) (j : Fin 4096) : (W9 m ρ c main_v27 : S1x4096.Idx → EReal) (ix2 0 j) = (kargs m c).gains 2 j := by
  rw [W9_v27, show W8 m ρ c main_v10 = W1 m ρ c main_v10 from (W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide)))))))]
  refine Eq.trans ?_ (v10_at m ρ c 2 j)
  pointwise

theorem v35_at (c : Dev nD) (j : Fin 4096) : (W15 m ρ c main_v35 : S1x4096.Idx → EReal) (ix2 0 j) = (kargs m c).gains 3 j := by
  rw [W15_v35, show W14 m ρ c main_v10 = W1 m ρ c main_v10 from (W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide)))))))))))))]
  refine Eq.trans ?_ (v10_at m ρ c 3 j)
  pointwise

theorem v39_at (c : Dev nD) (j : Fin 4096) : (W19 m ρ c main_v39 : S1x4096.Idx → EReal) (ix2 0 j) = (kargs m c).last j := by
  rw [W19_v39, W18_args m ρ c main_arg11 (by decide)]
  pointwise
  rfl

/-! The results of the calls. -/

theorem v14_at (c : Dev nD) (r : Fin 16384) (j : Fin 1024) : (W2 m ρ c main_v14 : S16384x1024.Idx → EReal) (ix2 r j) = (kargs m c).ya r j := by
  rw [show W2 m ρ c main_v14 = G0 (W1 m ρ c main_arg1) (W1 m ρ c main_arg2) (W1 m ρ c main_arg6) (W1 m ρ c main_v13) from (W2_arr m ρ c 4).trans (final0 (V1 m ρ) c)]
  exact G0_ya (kargs m c) (fun r j => congrArg (fun f : S16384x1024.Idx → EReal => f (ix2 r j)) (W1_args m ρ c main_arg1 (by decide))) (fun r j => congrArg (fun f : S16384x1024.Idx → EReal => f (ix2 r j)) (W1_args m ρ c main_arg2 (by decide))) (fun r j => congrArg (fun f : S16384x3072.Idx → EReal => f (ix2 r j)) (W1_args m ρ c main_arg6 (by decide))) (v13_at m ρ c) r j

theorem v18_at (c : Dev nD) (r : Fin 16384) (j : Fin 1024) : (W4 m ρ c main_v18 : S16384x1024.Idx → EReal) (ix2 r j) = (kargs m c).yb r j := by
  rw [show W4 m ρ c main_v18 = G1 (W3 m ρ c main_arg3) (W3 m ρ c main_arg4) (W3 m ρ c main_arg7) (W3 m ρ c main_v17) from (W4_arr m ρ c 4).trans (final1 (V3 m ρ) c)]
  exact G1_yb (kargs m c) (fun r j => congrArg (fun f : S16384x1024.Idx → EReal => f (ix2 r j)) (W3_args m ρ c main_arg3 (by decide))) (fun r j => congrArg (fun f : S16384x1024.Idx → EReal => f (ix2 r j)) (W3_args m ρ c main_arg4 (by decide))) (fun r j => congrArg (fun f : S16384x3072.Idx → EReal => f (ix2 r j)) (W3_args m ρ c main_arg7 (by decide))) (v17_at m ρ c) r j

theorem v19_at (c : Dev nD) (r : Fin 16384) (j : Fin 4096) : (W5 m ρ c main_v19 : S16384x4096.Idx → EReal) (ix2 r j) = (kargs m c).merged r j := by
  rw [show W5 m ρ c main_v19 = G2 (W4 m ρ c main_v14) (W4 m ρ c main_v18) (W4 m ρ c main_arg5) (W4 m ρ c main_arg8) (W4 m ρ c main_arg8) (W4 m ρ c main_arg8) (W4 m ρ c main_v0) from (W5_arr m ρ c 7).trans (final2 (V4 m ρ) c)]
  exact G2_merged (kargs m c) (fun r j => (congrArg (fun f : S16384x1024.Idx → EReal => f (ix2 r j)) ((W4_of m ρ c main_v14 (by decide)).trans (W3_of m ρ c main_v14 (by decide)))).trans (v14_at m ρ c r j)) (v18_at m ρ c) (fun r j => congrArg (fun f : S16384x1024.Idx → EReal => f (ix2 r j)) (W4_args m ρ c main_arg5 (by decide))) (fun r j => congrArg (fun f : S16384x15360.Idx → EReal => f (ix2 r j)) (W4_args m ρ c main_arg8 (by decide))) (fun n k j => (congrArg (fun f : S2x3x1024x4096.Idx → EReal => f (ix4 1 n k j)) ((W4_of m ρ c main_v0 (by decide)).trans ((W3_of m ρ c main_v0 (by decide)).trans (W2_of m ρ c main_v0 (by decide))))).trans (v0_at m ρ c n k j)) r j

theorem v20_at (c : Dev nD) (b : Fin 2) (s : Fin 8192) (j : Fin 4096) : (W6 m ρ c main_v20 : S16384x4096.Idx → EReal) (ix2 (row b s) j) = (kargs m c).x1 b s j := by
  rw [show W6 m ρ c main_v20 = G3 (W5 m ρ c main_v19) (W5 m ρ c main_v1) (W5 m ρ c main_v7) from (W6_arr m ρ c 3).trans (final3 (V5 m ρ) c)]
  exact G3_lin (row b s) _ _ _ (v19_at m ρ c _) (fun k j => (congrArg (fun f : S2x4096x4096.Idx → EReal => f (ix3 1 k j)) ((W5_of m ρ c main_v1 (by decide)).trans ((W4_of m ρ c main_v1 (by decide)).trans ((W3_of m ρ c main_v1 (by decide)).trans (W2_of m ρ c main_v1 (by decide)))))).trans (v1_at m ρ c k j)) (fun j => (congrArg (fun f : S16384x4096.Idx → EReal => f (ix2 (row b s) j)) ((W5_of m ρ c main_v7 (by decide)).trans ((W4_of m ρ c main_v7 (by decide)).trans ((W3_of m ρ c main_v7 (by decide)).trans (W2_of m ρ c main_v7 (by decide)))))).trans (v7_at m ρ c b s j)) j

theorem v24_at (c : Dev nD) (b : Fin 2) (s : Fin 8192) (j : Fin 4096) : (W8 m ρ c main_v24 : S16384x4096.Idx → EReal) (ix2 (row b s) j) = rms ((kargs m c).x1 b s) ((kargs m c).gains 1) j := by
  rw [show W8 m ρ c main_v24 = G4 (W7 m ρ c main_v20) (W7 m ρ c main_v23) from (W8_arr m ρ c 2).trans (final4 (V7 m ρ) c)]
  exact G4_rms (row b s) _ _ (fun k => (congrArg (fun f : S16384x4096.Idx → EReal => f (ix2 (row b s) k)) (W7_of m ρ c main_v20 (by decide))).trans (v20_at m ρ c b s k)) (v23_at m ρ c) j

theorem v28_at (c : Dev nD) (b : Fin 2) (n : Fin 256) (j : Fin 4096) : (W10 m ρ c main_v28 : S512x4096.Idx → EReal) (ix2 (⟨b.val * 256 + n.val, by omega⟩ : Fin 512) j) = rms ((kargs m c).mem b n) ((kargs m c).gains 2) j := by
  rw [show W10 m ρ c main_v28 = G5 (W9 m ρ c main_v8) (W9 m ρ c main_v27) from (W10_arr m ρ c 2).trans (final5 (V9 m ρ) c)]
  exact G5_rms (⟨b.val * 256 + n.val, by omega⟩ : Fin 512) _ _ (fun k => (congrArg (fun f : S512x4096.Idx → EReal => f (ix2 (⟨b.val * 256 + n.val, by omega⟩ : Fin 512) k)) ((W9_of m ρ c main_v8 (by decide)).trans ((W8_of m ρ c main_v8 (by decide)).trans ((W7_of m ρ c main_v8 (by decide)).trans ((W6_of m ρ c main_v8 (by decide)).trans ((W5_of m ρ c main_v8 (by decide)).trans ((W4_of m ρ c main_v8 (by decide)).trans ((W3_of m ρ c main_v8 (by decide)).trans (W2_of m ρ c main_v8 (by decide)))))))))).trans (v8_at m ρ c b n k)) (v27_at m ρ c) j

theorem v29_at (c : Dev nD) (b : Fin 2) (s : Fin 8192) (j : Fin 4096) : (W11 m ρ c main_v29 : S16384x4096.Idx → EReal) (ix2 (row b s) j) = (kargs m c).q b s j := by
  rw [show W11 m ρ c main_v29 = G6 (W10 m ρ c main_v24) (W10 m ρ c main_v2) from (W11_arr m ρ c 2).trans (final6 (V10 m ρ) c)]
  exact G6_lin (row b s) _ _ (fun k => (congrArg (fun f : S16384x4096.Idx → EReal => f (ix2 (row b s) k)) ((W10_of m ρ c main_v24 (by decide)).trans (W9_of m ρ c main_v24 (by decide)))).trans (v24_at m ρ c b s k)) (fun k j => (congrArg (fun f : S2x4096x4096.Idx → EReal => f (ix3 1 k j)) ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))))).trans (v2_at m ρ c k j)) j

theorem v30_at (c : Dev nD) (b : Fin 2) (n : Fin 256) (j : Fin 8192) : (W12 m ρ c main_v30 : S512x8192.Idx → EReal) (ix2 (⟨b.val * 256 + n.val, by omega⟩ : Fin 512) j) = (kargs m c).kv b n j := by
  rw [show W12 m ρ c main_v30 = G7 (W11 m ρ c main_v28) (W11 m ρ c main_v3) from (W12_arr m ρ c 2).trans (final7 (V11 m ρ) c)]
  exact G7_lin (⟨b.val * 256 + n.val, by omega⟩ : Fin 512) _ _ (fun k => (congrArg (fun f : S512x4096.Idx → EReal => f (ix2 (⟨b.val * 256 + n.val, by omega⟩ : Fin 512) k)) (W11_of m ρ c main_v28 (by decide))).trans (v28_at m ρ c b n k)) (fun k j => (congrArg (fun f : S2x4096x8192.Idx → EReal => f (ix3 1 k j)) ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide)))))))))))).trans (v3_at m ρ c k j)) j

theorem v31_at (c : Dev nD) (b : Fin 2) (s : Fin 8192) (j : Fin 4096) : (W13 m ρ c main_v31 : S16384x4096.Idx → EReal) (ix2 (row b s) j) = (kargs m c).att b s j := by
  rw [show W13 m ρ c main_v31 = G8 (W12 m ρ c main_v29) (W12 m ρ c main_v30) (W12 m ρ c main_v30) from (W13_arr m ρ c 3).trans (final8 (V12 m ρ) c)]
  exact G8_att (kargs m c) b s (fun j => (congrArg (fun f : S16384x4096.Idx → EReal => f (ix2 (row b s) j)) (W12_of m ρ c main_v29 (by decide))).trans (v29_at m ρ c b s j)) (v30_at m ρ c b) j

theorem v32_at (c : Dev nD) (b : Fin 2) (s : Fin 8192) (j : Fin 4096) : (W14 m ρ c main_v32 : S16384x4096.Idx → EReal) (ix2 (row b s) j) = (kargs m c).x2 b s j := by
  rw [show W14 m ρ c main_v32 = G9 (W13 m ρ c main_v31) (W13 m ρ c main_v4) (W13 m ρ c main_v20) from (W14_arr m ρ c 3).trans (final9 (V13 m ρ) c)]
  exact G9_lin (row b s) _ _ _ (v31_at m ρ c b s) (fun k j => (congrArg (fun f : S2x4096x4096.Idx → EReal => f (ix3 1 k j)) ((W13_of m ρ c main_v4 (by decide)).trans ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide)))))))))))))).trans (v4_at m ρ c k j)) (fun j => (congrArg (fun f : S16384x4096.Idx → EReal => f (ix2 (row b s) j)) ((W13_of m ρ c main_v20 (by decide)).trans ((W12_of m ρ c main_v20 (by decide)).trans ((W11_of m ρ c main_v20 (by decide)).trans ((W10_of m ρ c main_v20 (by decide)).trans ((W9_of m ρ c main_v20 (by decide)).trans ((W8_of m ρ c main_v20 (by decide)).trans (W7_of m ρ c main_v20 (by decide))))))))).trans (v20_at m ρ c b s j)) j

theorem v36_at (c : Dev nD) (b : Fin 2) (s : Fin 8192) (j : Fin 4096) : (W16 m ρ c main_v36 : S16384x4096.Idx → EReal) (ix2 (row b s) j) = rms ((kargs m c).x2 b s) ((kargs m c).gains 3) j := by
  rw [show W16 m ρ c main_v36 = G10 (W15 m ρ c main_v32) (W15 m ρ c main_v35) from (W16_arr m ρ c 2).trans (final10 (V15 m ρ) c)]
  exact G10_rms (row b s) _ _ (fun k => (congrArg (fun f : S16384x4096.Idx → EReal => f (ix2 (row b s) k)) (W15_of m ρ c main_v32 (by decide))).trans (v32_at m ρ c b s k)) (v35_at m ρ c) j

theorem v37_at (c : Dev nD) (b : Fin 2) (s : Fin 8192) (j : Fin 16384) : (W17 m ρ c main_v37 : S16384x16384.Idx → EReal) (ix2 (row b s) j) = (kargs m c).hid b s j * (kargs m c).hid b s j := by
  rw [show W17 m ρ c main_v37 = G11 (W16 m ρ c main_v36) (W16 m ρ c main_v5) from (W17_arr m ρ c 2).trans (final11 (V16 m ρ) c)]
  exact G11_lin (row b s) _ _ (v36_at m ρ c b s) (fun k j => (congrArg (fun f : S2x4096x16384.Idx → EReal => f (ix3 1 k j)) ((W16_of m ρ c main_v5 (by decide)).trans ((W15_of m ρ c main_v5 (by decide)).trans ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide))))))))))))))))).trans (v5_at m ρ c k j)) j

theorem v38_at (c : Dev nD) (b : Fin 2) (s : Fin 8192) (j : Fin 4096) : (W18 m ρ c main_v38 : S16384x4096.Idx → EReal) (ix2 (row b s) j) = (kargs m c).x3 b s j := by
  rw [show W18 m ρ c main_v38 = G12 (W17 m ρ c main_v37) (W17 m ρ c main_v6) (W17 m ρ c main_v32) from (W18_arr m ρ c 3).trans (final12 (V17 m ρ) c)]
  exact G12_lin (row b s) _ _ _ (v37_at m ρ c b s) (fun k j => (congrArg (fun f : S2x16384x4096.Idx → EReal => f (ix3 1 k j)) ((W17_of m ρ c main_v6 (by decide)).trans ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))))))))))))).trans (v6_at m ρ c k j)) (fun j => (congrArg (fun f : S16384x4096.Idx → EReal => f (ix2 (row b s) j)) ((W17_of m ρ c main_v32 (by decide)).trans ((W16_of m ρ c main_v32 (by decide)).trans (W15_of m ρ c main_v32 (by decide))))).trans (v32_at m ρ c b s j)) j

theorem v40_at (c : Dev nD) (b : Fin 2) (s : Fin 8192) (j : Fin 4096) : (W20 m ρ c main_v40 : S16384x4096.Idx → EReal) (ix2 (row b s) j) = (kargs m c).out b s j := by
  rw [show W20 m ρ c main_v40 = G13 (W19 m ρ c main_v38) (W19 m ρ c main_v39) from (W20_arr m ρ c 2).trans (final13 (V19 m ρ) c)]
  exact G13_rms (row b s) _ _ (fun k => (congrArg (fun f : S16384x4096.Idx → EReal => f (ix2 (row b s) k)) (W19_of m ρ c main_v38 (by decide))).trans (v38_at m ρ c b s k)) (v39_at m ρ c) j

theorem v41_at (c : Dev nD) (b : Fin 2) (s : Fin 8192) (j : Fin 4096) : (W21 m ρ c main_v41 : S2x8192x4096.Idx → EReal) (ix3 b s j) = (kargs m c).out b s j := by
  rw [W21_v41]
  refine Eq.trans ?_ (v40_at m ρ c b s j)
  pointwise

end Cert.Kernel2Ideal.Hand

end
-- ==== Proof.RefLayer.lean ====
module

public import proofs.«01_k».proof.Proof.Gen.Reference2Ideal.Run
public import proofs.«01_k».proof.Proof.Gen.Reference2Ideal
public import proofs.«01_k».proof.Proof.Spec

@[expose] public section

set_option maxRecDepth 16384

noncomputable section

namespace Cert.Reference2Ideal.Hand

open Cert.Reference2Ideal Cert.Reference2Ideal.Gen Cert.Reference2Ideal.Value Cert.Layer Idealize.ShloMosaic Idealize.ShloMosaic.TcCoe Idealize.SL.Sem

variable (V0 : Valuation τ sig (Elt Ideal))

/-- The reference's arrays. -/
def args : Args where
  x b s j := V0 (Proc.tc.devRef main_arg0) (ix3 b s j)
  hmf r j := V0 (Proc.tc.devRef main_arg1) (ix2 r j)
  hmb r j := V0 (Proc.tc.devRef main_arg2) (ix2 r j)
  hgf r j := V0 (Proc.tc.devRef main_arg3) (ix2 r j)
  hgb r j := V0 (Proc.tc.devRef main_arg4) (ix2 r j)
  yc r j := V0 (Proc.tc.devRef main_arg5) (ix2 r j)
  pm r j := V0 (Proc.tc.devRef main_arg6) (ix2 r j)
  pg r j := V0 (Proc.tc.devRef main_arg7) (ix2 r j)
  ph r j := V0 (Proc.tc.devRef main_arg8) (ix2 r j)
  mem b n j := V0 (Proc.tc.devRef main_arg9) (ix3 b n j)
  gains i j := V0 (Proc.tc.devRef main_arg10) (ix3 1 i j)
  last j := V0 (Proc.tc.devRef main_arg11) (ix1 j)
  hm j := V0 (Proc.tc.devRef main_arg12) (ix2 1 j)
  hg j := V0 (Proc.tc.devRef main_arg13) (ix2 1 j)
  wb n k j := V0 (Proc.tc.devRef main_arg14) (ix4 1 n k j)
  wout k j := V0 (Proc.tc.devRef main_arg15) (ix3 1 k j)
  wq k j := V0 (Proc.tc.devRef main_arg16) (ix3 1 k j)
  wkv k j := V0 (Proc.tc.devRef main_arg17) (ix3 1 k j)
  wo k j := V0 (Proc.tc.devRef main_arg18) (ix3 1 k j)
  w1 k j := V0 (Proc.tc.devRef main_arg19) (ix3 1 k j)
  w2 k j := V0 (Proc.tc.devRef main_arg20) (ix3 1 k j)

/-! The reference's named arrays, by their coordinates. -/

def r10 (b : Fin 2) (s : Fin 8192) (h : Fin 4) (k : Fin 256) : EReal := res_main_v10 (F := Ideal) V0 (ix4 b s h k)
def r12 (b : Fin 2) (s : Fin 8192) (h : Fin 4) (k : Fin 256) : EReal := res_main_v12 (F := Ideal) V0 (ix4 b s h k)
def r77 (b : Fin 2) (s : Fin 8192) (n : Fin 3) (j : Fin 4096) : EReal := res_main_v77 (F := Ideal) V0 (ix4 b s n j)
def r80 (b : Fin 2) (s : Fin 8192) (j : Fin 4096) : EReal := res_main_v80 (F := Ideal) V0 (ix3 b s j)
def r119 (b : Fin 2) (n : Fin 256) (j : Fin 8192) : EReal := res_main_v119 (F := Ideal) V0 (ix3 b n j)
def r126 (b : Fin 2) (h : Fin 4) (s : Fin 8192) (n : Fin 256) : EReal := res_main_v126 (F := Ideal) V0 (ix4 b h s n)
def r133 (b : Fin 2) (h : Fin 4) (s : Fin 8192) (n : Fin 256) : EReal := res_main_v133 (F := Ideal) V0 (ix4 b h s n)
def r142 (b : Fin 2) (s : Fin 8192) (j : Fin 4096) : EReal := res_main_v142 (F := Ideal) V0 (ix3 b s j)
def r163 (b : Fin 2) (s : Fin 8192) (j : Fin 16384) : EReal := res_main_v163 (F := Ideal) V0 (ix3 b s j)
def r166 (b : Fin 2) (s : Fin 8192) (j : Fin 4096) : EReal := res_main_v166 (F := Ideal) V0 (ix3 b s j)

theorem r10_at (b : Fin 2) (s : Fin 8192) (h : Fin 4) (k : Fin 256) : r10 V0 b s h k
    = (args V0).hmf (row b s) ⟨h.val * 256 + k.val, by omega⟩ + (args V0).hmb (row b s) ⟨h.val * 256 + k.val, by omega⟩ := by
  unfold r10 res_main_v10
  pointwise
  rfl

theorem r12_at (b : Fin 2) (s : Fin 8192) (h : Fin 4) (k : Fin 256) : r12 V0 b s h k
    = (args V0).hgf (row b s) ⟨h.val * 256 + k.val, by omega⟩ + (args V0).hgb (row b s) ⟨h.val * 256 + k.val, by omega⟩ := by
  unfold r12 res_main_v12
  pointwise
  rfl

theorem r57_at (i : Fin 4) (k : Fin 4096) : res_main_v57 (F := Ideal) V0 (ix2 i k) = V0 (Proc.tc.devRef main_arg10) (ix3 1 i k) := by
  unfold res_main_v57
  pointwise

theorem r77_0 (b : Fin 2) (s : Fin 8192) (j : Fin 4096) : r77 V0 b s 0 j
    = (∑ x, (args V0).wb 0 x j * (r10 V0 b s ⟨x.val / 256, by omega⟩ ⟨x.val % 256, by omega⟩ * inv c256 (r10 V0 b s ⟨x.val / 256, by omega⟩) * (args V0).hm x
        * gate ((args V0).pm (row b s) ⟨2048 + x.val, by omega⟩))) * gate ((args V0).ph (row b s) ⟨3072 + j.val, by omega⟩) := by
  unfold r77 res_main_v77
  pointwise
  rfl

theorem r77_1 (b : Fin 2) (s : Fin 8192) (j : Fin 4096) : r77 V0 b s 1 j
    = (∑ x, (args V0).wb 1 x j * (r12 V0 b s ⟨x.val / 256, by omega⟩ ⟨x.val % 256, by omega⟩ * inv c256 (r12 V0 b s ⟨x.val / 256, by omega⟩) * (args V0).hg x
        * ((args V0).pg (row b s) ⟨2048 + x.val, by omega⟩ * gate ((args V0).pg (row b s) ⟨2048 + x.val, by omega⟩)))) * gate ((args V0).ph (row b s) ⟨7168 + j.val, by omega⟩) := by
  rw [show (⟨7168 + j.val, by omega⟩ : Fin 15360) = ⟨3072 + (4096 + j.val), by omega⟩ from Fin.ext (by show 7168 + j.val = 3072 + (4096 + j.val); omega)]
  unfold r77 res_main_v77 res_main_v5
  pointwise
  rfl

theorem r77_2 (b : Fin 2) (s : Fin 8192) (j : Fin 4096) : r77 V0 b s 2 j
    = (∑ x, (args V0).wb 2 x j * (args V0).yc (row b s) x) * gate ((args V0).ph (row b s) ⟨11264 + j.val, by omega⟩) := by
  rw [show (⟨11264 + j.val, by omega⟩ : Fin 15360) = ⟨3072 + (8192 + j.val), by omega⟩ from Fin.ext (by show 11264 + j.val = 3072 + (8192 + j.val); omega)]
  unfold r77 res_main_v77
  pointwise
  rfl

theorem r80_at (b : Fin 2) (s : Fin 8192) (j : Fin 4096) : r80 V0 b s j
    = (args V0).x b s j + lin (fun k => ∑ n, r77 V0 b s n k) (args V0).wout j := by
  unfold r80 res_main_v80
  pointwise
  rfl

theorem r119_at (b : Fin 2) (n : Fin 256) (j : Fin 8192) : r119 V0 b n j = (args V0).kv b n j := by
  unfold r119 res_main_v119 res_main_v57
  pointwise
  rfl

theorem r126_at (b : Fin 2) (s : Fin 8192) (h : Fin 4) (n : Fin 256) : r126 V0 b h s n
    = (∑ d : Fin 1024, lin (rms (r80 V0 b s) ((args V0).gains 1)) (args V0).wq (inWide h d) * r119 V0 b n (keyCol h d)) * scale := by
  unfold r126 res_main_v126 res_main_v57
  pointwise
  rfl

theorem r142_at (b : Fin 2) (s : Fin 8192) (j : Fin 4096) : r142 V0 b s j
    = r80 V0 b s j + lin (fun x : Fin 4096 => ∑ n, r119 V0 b n ⟨4096 + x.val, by omega⟩ * Ideal.div (r133 V0 b ⟨x.val / 1024, by omega⟩ s n) (∑ n, r133 V0 b ⟨x.val / 1024, by omega⟩ s n)) (args V0).wo j := by
  unfold r142 res_main_v142
  pointwise
  rfl

theorem r163_at (b : Fin 2) (s : Fin 8192) (j : Fin 16384) : r163 V0 b s j
    = max (lin (rms (r142 V0 b s) ((args V0).gains 3)) (args V0).w1 j) 0 := by
  unfold r163 res_main_v163 res_main_v57
  pointwise
  rfl

theorem r166_at (b : Fin 2) (s : Fin 8192) (j : Fin 4096) : r166 V0 b s j
    = r142 V0 b s j + lin (fun k => r163 V0 b s k * r163 V0 b s k) (args V0).w2 j := by
  unfold r166 res_main_v166
  pointwise
  rfl

/-- The greatest score of a row. -/
theorem rowMax (x : FVec Ideal S2x4x8192x256 .f32) (b : Fin 2) (h : Fin 4) (s : Fin 8192) :
    Host.reduce FloatOps.maximumf x (constant (F := Ideal) S_ .f32 0xFF800000#32) reducesTo_S2x4x8192x256_S2x4x8192_d3 h_S_ (ix3 b h s)
      = Finset.univ.fold max least (fun n : Fin 256 => x (ix4 b h s n)) := by
  have hr : S2x4x8192x256.Reduces [3] S2x4x8192 := by decide
  rw [Host.reduce_eq_fold_single FloatOps.maximumf x _ _ hr]
  have hf : (x ∘ hr.lift (ix3 b h s)) = fun n : Fin 256 => x (ix4 b h s n) := funext fun n => congrArg x (by
    funext a
    match a with
    | ⟨0, _⟩ => rfl
    | ⟨1, _⟩ => rfl
    | ⟨2, _⟩ => rfl
    | ⟨3, _⟩ => rfl)
  exact congrArg (fun f => Finset.fold max least f (Finset.univ : Finset (Fin 256))) hf

theorem weights_of (x : FVec Ideal S2x4x8192x256 .f32) (y : FVec Ideal S2x4x8192 .f32) (b : Fin 2) (h : Fin 4) (s : Fin 8192) (n : Fin 256) :
    (Host.exp (subf x (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) y)))) : FVec Ideal S2x4x8192x256 .f32) (ix4 b h s n)
      = Ideal.exp ((x (ix4 b h s n) : EReal) - max least (y (ix3 b h s))) := by
  pointwise

theorem weights_at (x : FVec Ideal S2x4x8192x256 .f32) (b : Fin 2) (h : Fin 4) (s : Fin 8192) (n : Fin 256) :
    (Host.exp (subf x (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) (Host.reduce FloatOps.maximumf x (constant S_ .f32 0xFF800000#32) reducesTo_S2x4x8192x256_S2x4x8192_d3 h_S_))))) : FVec Ideal S2x4x8192x256 .f32) (ix4 b h s n)
      = Ideal.exp ((x (ix4 b h s n) : EReal) - Finset.univ.fold max least (fun n : Fin 256 => (x (ix4 b h s n) : EReal))) := by
  refine (weights_of x _ b h s n).trans ?_
  rw [rowMax, max_eq_right]
  rw [least_eq]
  exact bot_le

theorem r133_at (b : Fin 2) (s : Fin 8192) (h : Fin 4) (n : Fin 256) : r133 V0 b h s n
    = Ideal.exp (r126 V0 b h s n - Finset.univ.fold max least (r126 V0 b h s)) := by
  unfold r133 res_main_v133
  exact weights_at (res_main_v126 V0) b h s n

/-- The reference's result. -/
def refOut : FVec Ideal S2x8192x4096 .f32 :=
  mulf (mulf (res_main_v166 V0) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (res_main_v166 V0) (res_main_v166 V0)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (V0 (Proc.devRef .tc main_arg11))))

theorem refOut_at (b : Fin 2) (s : Fin 8192) (j : Fin 4096) : refOut V0 (ix3 b s j) = rms (r166 V0 b s) (args V0).last j := by
  unfold refOut
  pointwise
  rfl

/-! The reference's arrays are the layer's. -/

theorem r77_sum (b : Fin 2) (s : Fin 8192) (j : Fin 4096) : ∑ n, r77 V0 b s n j = (args V0).merged (row b s) j := by
  have hd : ∀ k : Fin 1024, (⟨k.val / 256 * 256 + k.val % 256, by omega⟩ : Fin 1024) = k := fun k => Fin.ext (by show k.val / 256 * 256 + k.val % 256 = k.val; omega)
  rw [Fin.sum_univ_three, r77_0, r77_1, r77_2]
  unfold Args.merged
  rw [mul_comm (∑ x, _) _, mul_comm (∑ x, _) _, mul_comm (∑ x, _) _]
  congr 1
  · congr 1
    · congr 1
      unfold lin
      refine Finset.sum_congr rfl fun k _ => ?_
      rw [mul_comm]
      unfold Args.ya headNorm
      simp only [r10_at, hd]
      rw [show r10 V0 b s ⟨k.val / 256, by omega⟩ = fun n => (args V0).hmf (row b s) (inHead k n) + (args V0).hmb (row b s) (inHead k n) from funext fun n => r10_at V0 b s ⟨k.val / 256, by omega⟩ n]
    · congr 1
      unfold lin
      refine Finset.sum_congr rfl fun k _ => ?_
      rw [mul_comm]
      unfold Args.yb headNorm
      simp only [r12_at, hd]
      rw [show r12 V0 b s ⟨k.val / 256, by omega⟩ = fun n => (args V0).hgf (row b s) (inHead k n) + (args V0).hgb (row b s) (inHead k n) from funext fun n => r12_at V0 b s ⟨k.val / 256, by omega⟩ n]
  · congr 1
    unfold lin
    exact Finset.sum_congr rfl fun k _ => mul_comm _ _

theorem r80_eq (b : Fin 2) (s : Fin 8192) : r80 V0 b s = (args V0).x1 b s := by
  funext j
  rw [r80_at, add_comm]
  unfold Args.x1
  congr 2
  funext k
  exact r77_sum V0 b s k

theorem r126_eq (b : Fin 2) (s : Fin 8192) (h : Fin 4) : r126 V0 b h s = (args V0).score b s h := by
  funext n
  rw [r126_at, r80_eq]
  unfold Args.score
  simp only [r119_at]
  rfl

theorem r133_eq (b : Fin 2) (s : Fin 8192) (h : Fin 4) (n : Fin 256) : r133 V0 b h s n = (args V0).weight b s h n := by
  rw [r133_at, r126_eq]
  rfl

theorem r142_eq (hA : (args V0).Finite) (b : Fin 2) (s : Fin 8192) : r142 V0 b s = (args V0).x2 b s := by
  funext j
  rw [r142_at, add_comm, r80_eq]
  unfold Args.x2
  congr 2
  funext x
  simp only [r119_at, r133_eq]
  exact mean_comm hA b s _ _

theorem r163_eq (hA : (args V0).Finite) (b : Fin 2) (s : Fin 8192) : r163 V0 b s = (args V0).hid b s := by
  funext j
  rw [r163_at, r142_eq V0 hA]
  rfl

theorem r166_eq (hA : (args V0).Finite) (b : Fin 2) (s : Fin 8192) : r166 V0 b s = (args V0).x3 b s := by
  funext j
  rw [r166_at, add_comm, r142_eq V0 hA, r163_eq V0 hA]
  rfl

theorem refOut_eq (hA : (args V0).Finite) (b : Fin 2) (s : Fin 8192) (j : Fin 4096) : refOut V0 (ix3 b s j) = (args V0).out b s j := by
  rw [refOut_at, r166_eq V0 hA]
  rfl

end Cert.Reference2Ideal.Hand

end
-- ==== Proof.Layer.lean ====
module

public import proofs.«01_k».proof.Defs
public import proofs.«01_k».proof.Proof.Values2
public import proofs.«01_k».proof.Proof.RefLayer

@[expose] public section

set_option maxRecDepth 16384

noncomputable section

namespace Cert.Kernel2Ideal.Hand

open Cert.Kernel2Ideal Cert.Kernel2Ideal.Gen Cert.Layer Idealize.ShloMosaic Idealize.ShloMosaic.TcCoe Idealize.SL.Sem

instance finiteFacts : Cert.Pre_finite.Facts where
  bcast_S_S2x8192x4096 := by decide
  bcast_S_S16384x1024 := by decide
  bcast_S_S16384x3072 := by decide
  bcast_S_S16384x15360 := by decide
  bcast_S_S2x256x4096 := by decide
  bcast_S_S2x4x4096 := by decide
  bcast_S_S2x1024 := by decide
  bcast_S_S2x3x1024x4096 := by decide
  bcast_S_S2x4096x4096 := by decide
  bcast_S_S2x4096x8192 := by decide

theorem top32 : Ideal.ofBits .f32 0x7F800000#32 = ⊤ := by
  simp [Ideal.ofBits, Ideal.ieee]

/-- An entry whose absolute value is below infinity is finite. -/
theorem real32 {s : Shape} (x : FVec Ideal s .f32) (hb : Cert.Pre_finite.S_.BroadcastsInDim s ![])
    (h : cmpf .olt (Host.absf x) (broadcastInDim s ![] hb (constant (F := Ideal) Cert.Pre_finite.S_ .f32 0x7F800000#32)) = fun _ => 1#1) (i : s.Idx) : IsReal (x i) := by
  have h1 := congrFun h i
  change BitVec.ofBool (decide (max (x i : EReal) (-(x i : EReal)) < Ideal.ofBits .f32 0x7F800000#32)) = 1#1 at h1
  rw [top32] at h1
  have h2 : max (x i : EReal) (-(x i : EReal)) < ⊤ := by
    by_contra hn
    rw [decide_eq_false hn] at h1
    exact absurd h1 (by decide)
  rw [max_lt_iff] at h2
  exact ⟨_, (EReal.coe_toReal h2.1.ne (fun e => h2.2.ne (by rw [e]; rfl))).symm⟩

theorem top16 : Ideal.ofBits .bf16 0x7F80#16 = ⊤ := by
  simp [Ideal.ofBits, Ideal.ieee]

/-- An entry whose absolute value is below infinity is finite. -/
theorem real16 {s : Shape} (x : FVec Ideal s .bf16) (hb : Cert.Pre_finite.S_.BroadcastsInDim s ![])
    (h : cmpf .olt (Host.absf x) (broadcastInDim s ![] hb (constant (F := Ideal) Cert.Pre_finite.S_ .bf16 0x7F80#16)) = fun _ => 1#1) (i : s.Idx) : IsReal (x i) := by
  have h1 := congrFun h i
  change BitVec.ofBool (decide (max (x i : EReal) (-(x i : EReal)) < Ideal.ofBits .bf16 0x7F80#16)) = 1#1 at h1
  rw [top16] at h1
  have h2 : max (x i : EReal) (-(x i : EReal)) < ⊤ := by
    by_contra hn
    rw [decide_eq_false hn] at h1
    exact absurd h1 (by decide)
  rw [max_lt_iff] at h2
  exact ⟨_, (EReal.coe_toReal h2.1.ne (fun e => h2.2.ne (by rw [e]; rfl))).symm⟩

theorem both {s : Shape} {a b : IVec s 1} (h : andi a b = fun _ => 1#1) : (a = fun _ => 1#1) ∧ (b = fun _ => 1#1) := by
  have e : ∀ x y : BitVec 1, x &&& y = 1#1 → x = 1#1 ∧ y = 1#1 := by decide
  exact ⟨funext fun i => (e _ _ (congrFun h i)).1, funext fun i => (e _ _ (congrFun h i)).2⟩

variable (m : (ℓ : Loc nD τ sig) → Buf (Elt Ideal) ℓ) (ρ : Dev nD → PrngReg)

theorem finite (h : Cert.Pre_Kernel2Ideal_finite m) (c : Dev nD) : (kargs m c).Finite := by
  obtain ⟨h0, g1, g2, h8, h9, h10, g6, h13, g8, h16⟩ := h c
  obtain ⟨g1, h5⟩ := both g1
  obtain ⟨g1, h4⟩ := both g1
  obtain ⟨g1, h3⟩ := both g1
  obtain ⟨h1, h2⟩ := both g1
  obtain ⟨h6, h7⟩ := both g2
  obtain ⟨h11, h12⟩ := both g6
  obtain ⟨h14, h15⟩ := both g8
  exact {
    x := fun a b d => real32 (m ((c : Thread nD τ).loc main_arg0)) _ h0 (ix3 a b d)
    hmf := fun a b => real32 (m ((c : Thread nD τ).loc main_arg1)) _ h1 (ix2 a b)
    hmb := fun a b => real32 (m ((c : Thread nD τ).loc main_arg2)) _ h2 (ix2 a b)
    hgf := fun a b => real32 (m ((c : Thread nD τ).loc main_arg3)) _ h3 (ix2 a b)
    hgb := fun a b => real32 (m ((c : Thread nD τ).loc main_arg4)) _ h4 (ix2 a b)
    yc := fun a b => real16 (m ((c : Thread nD τ).loc main_arg5)) _ h5 (ix2 a b)
    pm := fun a b => real16 (m ((c : Thread nD τ).loc main_arg6)) _ h6 (ix2 a b)
    pg := fun a b => real16 (m ((c : Thread nD τ).loc main_arg7)) _ h7 (ix2 a b)
    ph := fun a b => real16 (m ((c : Thread nD τ).loc main_arg8)) _ h8 (ix2 a b)
    mem := fun a b d => real32 (m ((c : Thread nD τ).loc main_arg9)) _ h9 (ix3 a b d)
    gains := fun a b => real32 (m ((c : Thread nD τ).loc main_arg10)) _ h10 (ix3 1 a b)
    hm := fun a => real32 (m ((c : Thread nD τ).loc main_arg12)) _ h11 (ix2 1 a)
    hg := fun a => real32 (m ((c : Thread nD τ).loc main_arg13)) _ h12 (ix2 1 a)
    wb := fun a b d => real32 (m ((c : Thread nD τ).loc main_arg14)) _ h13 (ix4 1 a b d)
    wout := fun a b => real32 (m ((c : Thread nD τ).loc main_arg15)) _ h14 (ix3 1 a b)
    wq := fun a b => real32 (m ((c : Thread nD τ).loc main_arg16)) _ h15 (ix3 1 a b)
    wkv := fun a b => real32 (m ((c : Thread nD τ).loc main_arg17)) _ h16 (ix3 1 a b)
  }

open Cert.Reference2Ideal.Hand (refOut refOut_eq) in
theorem algebraic : @Cert.algebraic_Kernel2Ideal_Reference2Ideal_pre_finite Cert.Kernel2Ideal.Gen.facts Cert.Reference2Ideal.Gen.facts finiteFacts := by
  intro m ρ m' ρ' hpre hagree
  refine ⟨fun c => W21 m ρ c main_v41, ?_, ?_⟩
  · exact (θ_run Cert.Kernel2Ideal.defs _ _).mono (fun r h c =>
      ⟨h c _ (mem_uc main_v41 (by decide)), (h c _ (mem_uc main_arg0 (by decide))).trans (W21_main_arg0 m ρ c), (h c _ (mem_uc main_arg1 (by decide))).trans (W21_main_arg1 m ρ c), (h c _ (mem_uc main_arg2 (by decide))).trans (W21_main_arg2 m ρ c), (h c _ (mem_uc main_arg3 (by decide))).trans (W21_main_arg3 m ρ c), (h c _ (mem_uc main_arg4 (by decide))).trans (W21_main_arg4 m ρ c), (h c _ (mem_uc main_arg5 (by decide))).trans (W21_main_arg5 m ρ c), (h c _ (mem_uc main_arg6 (by decide))).trans (W21_main_arg6 m ρ c), (h c _ (mem_uc main_arg7 (by decide))).trans (W21_main_arg7 m ρ c), (h c _ (mem_uc main_arg8 (by decide))).trans (W21_main_arg8 m ρ c), (h c _ (mem_uc main_arg9 (by decide))).trans (W21_main_arg9 m ρ c), (h c _ (mem_uc main_arg10 (by decide))).trans (W21_main_arg10 m ρ c), (h c _ (mem_uc main_arg11 (by decide))).trans (W21_main_arg11 m ρ c), (h c _ (mem_uc main_arg12 (by decide))).trans (W21_main_arg12 m ρ c), (h c _ (mem_uc main_arg13 (by decide))).trans (W21_main_arg13 m ρ c), (h c _ (mem_uc main_arg14 (by decide))).trans (W21_main_arg14 m ρ c), (h c _ (mem_uc main_arg15 (by decide))).trans (W21_main_arg15 m ρ c), (h c _ (mem_uc main_arg16 (by decide))).trans (W21_main_arg16 m ρ c), (h c _ (mem_uc main_arg17 (by decide))).trans (W21_main_arg17 m ρ c), (h c _ (mem_uc main_arg18 (by decide))).trans (W21_main_arg18 m ρ c), (h c _ (mem_uc main_arg19 (by decide))).trans (W21_main_arg19 m ρ c), (h c _ (mem_uc main_arg20 (by decide))).trans (W21_main_arg20 m ρ c)⟩) (run m ρ)
  · refine (θ_run Cert.Reference2Ideal.defs _ _).mono (fun r h c => ⟨(h c).1.trans ?_, (h c).2⟩) (Cert.Reference2Ideal.Value.run m' ρ')
    have hargs : Cert.Reference2Ideal.Hand.args (Idealize.ShloMosaic.StableHlo.launchContents m' c) = kargs m c := by
      obtain ⟨h0, h1, h2, h3, h4, h5, h6, h7, h8, h9, h10, h11, h12, h13, h14, h15, h16, h17, h18, h19, h20⟩ := hagree c
      have e : ∀ (F G : Args), F.x = G.x → F.hmf = G.hmf → F.hmb = G.hmb → F.hgf = G.hgf → F.hgb = G.hgb → F.yc = G.yc → F.pm = G.pm → F.pg = G.pg → F.ph = G.ph → F.mem = G.mem → F.gains = G.gains → F.last = G.last → F.hm = G.hm → F.hg = G.hg → F.wb = G.wb → F.wout = G.wout → F.wq = G.wq → F.wkv = G.wkv → F.wo = G.wo → F.w1 = G.w1 → F.w2 = G.w2 → F = G := by
        rintro ⟨⟩ ⟨⟩
        intros
        simp_all
      apply e
      · exact congrArg (fun (f : S2x8192x4096.Idx → EReal) b s j => f (ix3 b s j)) h0
      · exact congrArg (fun (f : S16384x1024.Idx → EReal) r j => f (ix2 r j)) h1
      · exact congrArg (fun (f : S16384x1024.Idx → EReal) r j => f (ix2 r j)) h2
      · exact congrArg (fun (f : S16384x1024.Idx → EReal) r j => f (ix2 r j)) h3
      · exact congrArg (fun (f : S16384x1024.Idx → EReal) r j => f (ix2 r j)) h4
      · exact congrArg (fun (f : S16384x1024.Idx → EReal) r j => f (ix2 r j)) h5
      · exact congrArg (fun (f : S16384x3072.Idx → EReal) r j => f (ix2 r j)) h6
      · exact congrArg (fun (f : S16384x3072.Idx → EReal) r j => f (ix2 r j)) h7
      · exact congrArg (fun (f : S16384x15360.Idx → EReal) r j => f (ix2 r j)) h8
      · exact congrArg (fun (f : S2x256x4096.Idx → EReal) b s j => f (ix3 b s j)) h9
      · exact congrArg (fun (f : S2x4x4096.Idx → EReal) i j => f (ix3 1 i j)) h10
      · exact congrArg (fun (f : S4096.Idx → EReal) j => f (ix1 j)) h11
      · exact congrArg (fun (f : S2x1024.Idx → EReal) j => f (ix2 1 j)) h12
      · exact congrArg (fun (f : S2x1024.Idx → EReal) j => f (ix2 1 j)) h13
      · exact congrArg (fun (f : S2x3x1024x4096.Idx → EReal) n k j => f (ix4 1 n k j)) h14
      · exact congrArg (fun (f : S2x4096x4096.Idx → EReal) k j => f (ix3 1 k j)) h15
      · exact congrArg (fun (f : S2x4096x4096.Idx → EReal) k j => f (ix3 1 k j)) h16
      · exact congrArg (fun (f : S2x4096x8192.Idx → EReal) k j => f (ix3 1 k j)) h17
      · exact congrArg (fun (f : S2x4096x4096.Idx → EReal) k j => f (ix3 1 k j)) h18
      · exact congrArg (fun (f : S2x4096x16384.Idx → EReal) k j => f (ix3 1 k j)) h19
      · exact congrArg (fun (f : S2x16384x4096.Idx → EReal) k j => f (ix3 1 k j)) h20
    show refOut (Idealize.ShloMosaic.StableHlo.launchContents m' c) = W21 m ρ c main_v41
    have hA : (Cert.Reference2Ideal.Hand.args (Idealize.ShloMosaic.StableHlo.launchContents m' c)).Finite := by rw [hargs]; exact finite m hpre c
    funext i
    rw [eq_ix3 i]
    refine (refOut_eq (Idealize.ShloMosaic.StableHlo.launchContents m' c) hA _ _ _).trans ?_
    rw [hargs]
    exact (v41_at m ρ c _ _ _).symm

end Cert.Kernel2Ideal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.InProj
public import proofs.«01_k».proof.Proof.Layer
public import Idealize.ShloMosaic.Lib.Quiescent
public import Idealize.ShloMosaic.Adequacy
public import Idealize.ShloMosaic.Init

/-! The claims of the statement, put together: the frames of the eight programs, and the two equalities over the extended reals,
the input projections (`Proof/InProj.lean`) and the last layer from its mixers' outputs on (`Proof/Layer.lean`). -/

@[expose] public section

noncomputable section

namespace Cert.Proof

open Idealize.ShloMosaic Idealize.ShloMosaic.TcCoe Idealize.SL.Sem Cert.Kernel

/-- Every claim of the statement. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts,
    Cert.Kernel2Ideal.Hand.finiteFacts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2.2.2.2, sem_eq_zero_of_no_sems (by decide) r.2⟩)
      (Cert.ReferenceIdeal.Value.run m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩)
      (Cert.Reference2Ideal.Value.run m ρ),
    fun m ρ _ => (θ_run Cert.Reference2Ideal.defs _ _).mono
      (fun r h => ⟨fun c => (h c).2, sem_eq_zero_of_no_sems (by decide) r.2⟩)
      (Cert.Reference2Ideal.Value.run m ρ),
    fun m ρ _ => Cert.Kernel3.Gen.frame m ρ,
    fun m ρ _ => Cert.Kernel3Ideal.Gen.frame m ρ,
    trivial, Cert.InProj.algebraic, trivial, Cert.Kernel2Ideal.Hand.algebraic,
    IdealRules.named_const.statement Cert.Kernel3Ideal.κ "mask" .f32 0xF149F2CA#32 ⊥ rfl⟩

end Cert.Proof
